-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal (hKernelIdeal := hKernelIdeal) (hReferenceIdeal := hReferenceIdeal) (hPre_codes_in_range := hPre_codes_in_range)
-- ==== Pre_codes_in_range.lean ====
abbrev S1x4096 : Shape := ⟨2, ![1, 4096]⟩
abbrev S2x256x1x8 : Shape := ⟨4, ![2, 256, 1, 8]⟩
abbrev S512x4096x2 : Shape := ⟨3, ![512, 4096, 2]⟩
abbrev S4096x1x1x1 : Shape := ⟨4, ![4096, 1, 1, 1]⟩
abbrev S_ : Shape := ⟨0, ![]⟩

class Facts : Prop where
  bcast_S_S512x4096x2 : S_.BroadcastsInDim S512x4096x2 (![] : Fin 0 → Fin S512x4096x2.rank)
  reducesTo_S512x4096x2_S_d0_1_2 : S512x4096x2.ReducesTo [0, 1, 2] S_
  h_S_ : 0 < S_.numel

variable [Facts]

def fn {F : FTy → Type} [FloatOps F] (main_arg0 : FVec F S1x4096 .f32) (main_arg1 : FVec F S2x256x1x8 .f32) (main_arg2 : IVec S512x4096x2 32) (main_arg3 : FVec F S4096x1x1x1 .f32) : IVec S_ 1 :=
  let main_c : IVec S_ 32 := constantI S_ 32 0#32
  let main_v0 : IVec S512x4096x2 32 := broadcastInDim S512x4096x2 ![] bcast_S_S512x4096x2 main_c
  let main_v1 : IVec S512x4096x2 1 := cmpi .sge main_arg2 main_v0
  let main_c_0 : IVec S_ 32 := constantI S_ 32 256#32
  let main_v2 : IVec S512x4096x2 32 := broadcastInDim S512x4096x2 ![] bcast_S_S512x4096x2 main_c_0
  let main_v3 : IVec S512x4096x2 1 := cmpi .slt main_arg2 main_v2
  let main_v4 : IVec S512x4096x2 1 := andi main_v1 main_v3
  let main_c_1 : IVec S_ 1 := constantI S_ 1 1#1
  let main_v5 : IVec S_ 1 := (fun x v => Host.reduce IntOp.andi x v reducesTo_S512x4096x2_S_d0_1_2 h_S_) main_v4 main_c_1
  main_v5
-- ==== Kernel.lean ====
abbrev S1x4096 : Shape := ⟨2, ![1, 4096]⟩
abbrev S2x256x1x8 : Shape := ⟨4, ![2, 256, 1, 8]⟩
abbrev S512x4096x2 : Shape := ⟨3, ![512, 4096, 2]⟩
abbrev S4096x1x1x1 : Shape := ⟨4, ![4096, 1, 1, 1]⟩
abbrev S512x8 : Shape := ⟨2, ![512, 8]⟩
abbrev S512x512 : Shape := ⟨2, ![512, 512]⟩
abbrev S8x32768 : Shape := ⟨2, ![8, 32768]⟩
abbrev S8x64x8192 : Shape := ⟨3, ![8, 64, 8192]⟩
abbrev S4096 : Shape := ⟨1, ![4096]⟩
abbrev S32768 : Shape := ⟨1, ![32768]⟩
abbrev S64x256 : Shape := ⟨2, ![64, 256]⟩
abbrev S256 : Shape := ⟨1, ![256]⟩
abbrev S128 : Shape := ⟨1, ![128]⟩
abbrev S_ : Shape := ⟨0, ![]⟩
abbrev S1x32768 : Shape := ⟨2, ![1, 32768]⟩
abbrev S1x64x256 : Shape := ⟨3, ![1, 64, 256]⟩
abbrev S16 : Shape := ⟨1, ![16]⟩
abbrev S1x16 : Shape := ⟨2, ![1, 16]⟩

abbrev nBuf : Table → Nat
  | .hbm => 12
  | .local .tc .vmem => 3
  | .local .scVector .vmem => 7
  | _ => 0

abbrev bufTy : (tb : Table) → Fin (nBuf tb) → BufTy
  | .hbm, ⟨0, _⟩ => ⟨S1x4096, .f32⟩
  | .hbm, ⟨1, _⟩ => ⟨S2x256x1x8, .f32⟩
  | .hbm, ⟨2, _⟩ => ⟨S512x4096x2, .i32⟩
  | .hbm, ⟨3, _⟩ => ⟨S4096x1x1x1, .f32⟩
  | .hbm, ⟨4, _⟩ => ⟨S512x8, .f32⟩
  | .hbm, ⟨5, _⟩ => ⟨S512x8, .f32⟩
  | .hbm, ⟨6, _⟩ => ⟨S512x512, .f32⟩
  | .hbm, ⟨7, _⟩ => ⟨S8x32768, .f32⟩
  | .hbm, ⟨8, _⟩ => ⟨S8x64x8192, .i32⟩
  | .hbm, ⟨9, _⟩ => ⟨S4096, .f32⟩
  | .hbm, ⟨10, _⟩ => ⟨S4096, .f32⟩
  | .hbm, ⟨11, _⟩ => ⟨S1x4096, .f32⟩
  | .local .tc .vmem, ⟨0, _⟩ => ⟨S512x8, .f32⟩
  | .local .tc .vmem, ⟨1, _⟩ => ⟨S512x8, .f32⟩
  | .local .tc .vmem, ⟨2, _⟩ => ⟨S512x512, .f32⟩
  | .local .scVector .vmem, ⟨0, _⟩ => ⟨S32768, .f32⟩
  | .local .scVector .vmem, ⟨1, _⟩ => ⟨S32768, .f32⟩
  | .local .scVector .vmem, ⟨2, _⟩ => ⟨S64x256, .i32⟩
  | .local .scVector .vmem, ⟨3, _⟩ => ⟨S64x256, .i32⟩
  | .local .scVector .vmem, ⟨4, _⟩ => ⟨S256, .f32⟩
  | .local .scVector .vmem, ⟨5, _⟩ => ⟨S128, .f32⟩
  | .local .scVector .vmem, ⟨6, _⟩ => ⟨S128, .f32⟩
  | _, _ => ⟨S1x4096, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev main_v6_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S512x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let c0_i32_3 : BitVec 32 := 0#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![0, 0, v3.toNat]
def k1_off2 (i : grid1.Coords) : Fin 3 → Nat :=
  let c1_i32_8 : BitVec 32 := 1#32
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![1, 0, v3.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k1_t1_loop : Scf.Loop 32 :=
  let c0_i32_38 : BitVec 32 := 0#32
  let c64_i32 : BitVec 32 := 64#32
  let v63 : BitVec 32 := Scalar.addi c0_i32_38 c64_i32
  let c1_i32_39 : BitVec 32 := 1#32
  ⟨c0_i32_38, v63, c1_i32_39⟩
def k1_off4 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v330 : Index := Scalar.indexCast arg17
  let c0_193 : Index := 0#32
  ![v330.toNat, 0]

def k1_chk1 (v332 : IVec S16 32) : Prop :=
  (∀ a x, ((![v332] : Fin 1 → IVec S16 32) a x).toNat < S32768.size a)
theorem k1_idx1_inb : ∀ (v332 : IVec S16 32) (k1_hw1 : k1_chk1 v332), ∀ a x, ((![v332] : Fin 1 → IVec S16 32) a x).toNat < S32768.size a := fun v332 k1_hw1 => k1_hw1
def k1_off5 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v335 : Index := Scalar.indexCast arg17
  let c16_194 : Index := 16#32
  ![v335.toNat, 16]

def k1_chk2 (v337 : IVec S16 32) : Prop :=
  (∀ a x, ((![v337] : Fin 1 → IVec S16 32) a x).toNat < S32768.size a)
theorem k1_idx2_inb : ∀ (v337 : IVec S16 32) (k1_hw2 : k1_chk2 v337), ∀ a x, ((![v337] : Fin 1 → IVec S16 32) a x).toNat < S32768.size a := fun v337 k1_hw2 => k1_hw2
def k1_off6 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v340 : Index := Scalar.indexCast arg17
  let c32_195 : Index := 32#32
  ![v340.toNat, 32]

def k1_chk3 (v342 : IVec S16 32) : Prop :=
  (∀ a x, ((![v342] : Fin 1 → IVec S16 32) a x).toNat < S32768.size a)
theorem k1_idx3_inb : ∀ (v342 : IVec S16 32) (k1_hw3 : k1_chk3 v342), ∀ a x, ((![v342] : Fin 1 → IVec S16 32) a x).toNat < S32768.size a := fun v342 k1_hw3 => k1_hw3
def k1_off7 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v345 : Index := Scalar.indexCast arg17
  let c48_196 : Index := 48#32
  ![v345.toNat, 48]

def k1_chk4 (v347 : IVec S16 32) : Prop :=
  (∀ a x, ((![v347] : Fin 1 → IVec S16 32) a x).toNat < S32768.size a)
theorem k1_idx4_inb : ∀ (v347 : IVec S16 32) (k1_hw4 : k1_chk4 v347), ∀ a x, ((![v347] : Fin 1 → IVec S16 32) a x).toNat < S32768.size a := fun v347 k1_hw4 => k1_hw4
def k1_off8 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v350 : Index := Scalar.indexCast arg17
  let c64_197 : Index := 64#32
  ![v350.toNat, 64]

def k1_chk5 (v352 : IVec S16 32) : Prop :=
  (∀ a x, ((![v352] : Fin 1 → IVec S16 32) a x).toNat < S32768.size a)
theorem k1_idx5_inb : ∀ (v352 : IVec S16 32) (k1_hw5 : k1_chk5 v352), ∀ a x, ((![v352] : Fin 1 → IVec S16 32) a x).toNat < S32768.size a := fun v352 k1_hw5 => k1_hw5
def k1_off9 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v355 : Index := Scalar.indexCast arg17
  let c80_198 : Index := 80#32
  ![v355.toNat, 80]

def k1_chk6 (v357 : IVec S16 32) : Prop :=
  (∀ a x, ((![v357] : Fin 1 → IVec S16 32) a x).toNat < S32768.size a)
theorem k1_idx6_inb : ∀ (v357 : IVec S16 32) (k1_hw6 : k1_chk6 v357), ∀ a x, ((![v357] : Fin 1 → IVec S16 32) a x).toNat < S32768.size a := fun v357 k1_hw6 => k1_hw6
def k1_off10 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v360 : Index := Scalar.indexCast arg17
  let c96_199 : Index := 96#32
  ![v360.toNat, 96]

def k1_chk7 (v362 : IVec S16 32) : Prop :=
  (∀ a x, ((![v362] : Fin 1 → IVec S16 32) a x).toNat < S32768.size a)
theorem k1_idx7_inb : ∀ (v362 : IVec S16 32) (k1_hw7 : k1_chk7 v362), ∀ a x, ((![v362] : Fin 1 → IVec S16 32) a x).toNat < S32768.size a := fun v362 k1_hw7 => k1_hw7
def k1_off11 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v365 : Index := Scalar.indexCast arg17
  let c112_200 : Index := 112#32
  ![v365.toNat, 112]

def k1_chk8 (v367 : IVec S16 32) : Prop :=
  (∀ a x, ((![v367] : Fin 1 → IVec S16 32) a x).toNat < S32768.size a)
theorem k1_idx8_inb : ∀ (v367 : IVec S16 32) (k1_hw8 : k1_chk8 v367), ∀ a x, ((![v367] : Fin 1 → IVec S16 32) a x).toNat < S32768.size a := fun v367 k1_hw8 => k1_hw8
def k1_off12 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v370 : Index := Scalar.indexCast arg17
  let c128_201 : Index := 128#32
  ![v370.toNat, 128]

def k1_chk9 (v372 : IVec S16 32) : Prop :=
  (∀ a x, ((![v372] : Fin 1 → IVec S16 32) a x).toNat < S32768.size a)
theorem k1_idx9_inb : ∀ (v372 : IVec S16 32) (k1_hw9 : k1_chk9 v372), ∀ a x, ((![v372] : Fin 1 → IVec S16 32) a x).toNat < S32768.size a := fun v372 k1_hw9 => k1_hw9
def k1_off13 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v375 : Index := Scalar.indexCast arg17
  let c144_202 : Index := 144#32
  ![v375.toNat, 144]

def k1_chk10 (v377 : IVec S16 32) : Prop :=
  (∀ a x, ((![v377] : Fin 1 → IVec S16 32) a x).toNat < S32768.size a)
theorem k1_idx10_inb : ∀ (v377 : IVec S16 32) (k1_hw10 : k1_chk10 v377), ∀ a x, ((![v377] : Fin 1 → IVec S16 32) a x).toNat < S32768.size a := fun v377 k1_hw10 => k1_hw10
def k1_off14 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v380 : Index := Scalar.indexCast arg17
  let c160_203 : Index := 160#32
  ![v380.toNat, 160]

def k1_chk11 (v382 : IVec S16 32) : Prop :=
  (∀ a x, ((![v382] : Fin 1 → IVec S16 32) a x).toNat < S32768.size a)
theorem k1_idx11_inb : ∀ (v382 : IVec S16 32) (k1_hw11 : k1_chk11 v382), ∀ a x, ((![v382] : Fin 1 → IVec S16 32) a x).toNat < S32768.size a := fun v382 k1_hw11 => k1_hw11
def k1_off15 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v385 : Index := Scalar.indexCast arg17
  let c176_204 : Index := 176#32
  ![v385.toNat, 176]

def k1_chk12 (v387 : IVec S16 32) : Prop :=
  (∀ a x, ((![v387] : Fin 1 → IVec S16 32) a x).toNat < S32768.size a)
theorem k1_idx12_inb : ∀ (v387 : IVec S16 32) (k1_hw12 : k1_chk12 v387), ∀ a x, ((![v387] : Fin 1 → IVec S16 32) a x).toNat < S32768.size a := fun v387 k1_hw12 => k1_hw12
def k1_off16 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v390 : Index := Scalar.indexCast arg17
  let c192_205 : Index := 192#32
  ![v390.toNat, 192]

def k1_chk13 (v392 : IVec S16 32) : Prop :=
  (∀ a x, ((![v392] : Fin 1 → IVec S16 32) a x).toNat < S32768.size a)
theorem k1_idx13_inb : ∀ (v392 : IVec S16 32) (k1_hw13 : k1_chk13 v392), ∀ a x, ((![v392] : Fin 1 → IVec S16 32) a x).toNat < S32768.size a := fun v392 k1_hw13 => k1_hw13
def k1_off17 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v395 : Index := Scalar.indexCast arg17
  let c208_206 : Index := 208#32
  ![v395.toNat, 208]

def k1_chk14 (v397 : IVec S16 32) : Prop :=
  (∀ a x, ((![v397] : Fin 1 → IVec S16 32) a x).toNat < S32768.size a)
theorem k1_idx14_inb : ∀ (v397 : IVec S16 32) (k1_hw14 : k1_chk14 v397), ∀ a x, ((![v397] : Fin 1 → IVec S16 32) a x).toNat < S32768.size a := fun v397 k1_hw14 => k1_hw14
def k1_off18 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v400 : Index := Scalar.indexCast arg17
  let c224_207 : Index := 224#32
  ![v400.toNat, 224]

def k1_chk15 (v402 : IVec S16 32) : Prop :=
  (∀ a x, ((![v402] : Fin 1 → IVec S16 32) a x).toNat < S32768.size a)
theorem k1_idx15_inb : ∀ (v402 : IVec S16 32) (k1_hw15 : k1_chk15 v402), ∀ a x, ((![v402] : Fin 1 → IVec S16 32) a x).toNat < S32768.size a := fun v402 k1_hw15 => k1_hw15
def k1_off19 (k1_t1 : Fin k1_t1_loop.trips) : Fin 2 → Nat :=
  let c0_i32_38 : BitVec 32 := 0#32
  let c1_i32_39 : BitVec 32 := 1#32
  let arg17 : BitVec 32 := Scf.iv c0_i32_38 c1_i32_39 k1_t1
  let v405 : Index := Scalar.indexCast arg17
  let c240_208 : Index := 240#32
  ![v405.toNat, 240]

def k1_chk16 (v407 : IVec S16 32) : Prop :=
  (∀ a x, ((![v407] : Fin 1 → IVec S16 32) a x).toNat < S32768.size a)
theorem k1_idx16_inb : ∀ (v407 : IVec S16 32) (k1_hw16 : k1_chk16 v407), ∀ a x, ((![v407] : Fin 1 → IVec S16 32) a x).toNat < S32768.size a := fun v407 k1_hw16 => k1_hw16
def k1_off20 (i : grid1.Coords) : Fin 3 → Nat :=
  let c2_i32_44 : BitVec 32 := 2#32
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![2, 0, v3.toNat]
@[reducible] def k1_t2_loop : Scf.Loop 32 :=
  let c0_i32_53 : BitVec 32 := 0#32
  let c64_i32_54 : BitVec 32 := 64#32
  let v81 : BitVec 32 := Scalar.addi c0_i32_53 c64_i32_54
  let c1_i32_55 : BitVec 32 := 1#32
  ⟨c0_i32_53, v81, c1_i32_55⟩
def k1_off21 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v330 : Index := Scalar.indexCast arg17
  let c0_193 : Index := 0#32
  ![v330.toNat, 0]

def k1_chk17 (v332 : IVec S16 32) : Prop :=
  (∀ a x, ((![v332] : Fin 1 → IVec S16 32) a x).toNat < S32768.size a)
theorem k1_idx17_inb : ∀ (v332 : IVec S16 32) (k1_hw17 : k1_chk17 v332), ∀ a x, ((![v332] : Fin 1 → IVec S16 32) a x).toNat < S32768.size a := fun v332 k1_hw17 => k1_hw17
def k1_off22 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v335 : Index := Scalar.indexCast arg17
  let c16_194 : Index := 16#32
  ![v335.toNat, 16]

def k1_chk18 (v337 : IVec S16 32) : Prop :=
  (∀ a x, ((![v337] : Fin 1 → IVec S16 32) a x).toNat < S32768.size a)
theorem k1_idx18_inb : ∀ (v337 : IVec S16 32) (k1_hw18 : k1_chk18 v337), ∀ a x, ((![v337] : Fin 1 → IVec S16 32) a x).toNat < S32768.size a := fun v337 k1_hw18 => k1_hw18
def k1_off23 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v340 : Index := Scalar.indexCast arg17
  let c32_195 : Index := 32#32
  ![v340.toNat, 32]

def k1_chk19 (v342 : IVec S16 32) : Prop :=
  (∀ a x, ((![v342] : Fin 1 → IVec S16 32) a x).toNat < S32768.size a)
theorem k1_idx19_inb : ∀ (v342 : IVec S16 32) (k1_hw19 : k1_chk19 v342), ∀ a x, ((![v342] : Fin 1 → IVec S16 32) a x).toNat < S32768.size a := fun v342 k1_hw19 => k1_hw19
def k1_off24 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v345 : Index := Scalar.indexCast arg17
  let c48_196 : Index := 48#32
  ![v345.toNat, 48]

def k1_chk20 (v347 : IVec S16 32) : Prop :=
  (∀ a x, ((![v347] : Fin 1 → IVec S16 32) a x).toNat < S32768.size a)
theorem k1_idx20_inb : ∀ (v347 : IVec S16 32) (k1_hw20 : k1_chk20 v347), ∀ a x, ((![v347] : Fin 1 → IVec S16 32) a x).toNat < S32768.size a := fun v347 k1_hw20 => k1_hw20
def k1_off25 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v350 : Index := Scalar.indexCast arg17
  let c64_197 : Index := 64#32
  ![v350.toNat, 64]

def k1_chk21 (v352 : IVec S16 32) : Prop :=
  (∀ a x, ((![v352] : Fin 1 → IVec S16 32) a x).toNat < S32768.size a)
theorem k1_idx21_inb : ∀ (v352 : IVec S16 32) (k1_hw21 : k1_chk21 v352), ∀ a x, ((![v352] : Fin 1 → IVec S16 32) a x).toNat < S32768.size a := fun v352 k1_hw21 => k1_hw21
def k1_off26 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v355 : Index := Scalar.indexCast arg17
  let c80_198 : Index := 80#32
  ![v355.toNat, 80]

def k1_chk22 (v357 : IVec S16 32) : Prop :=
  (∀ a x, ((![v357] : Fin 1 → IVec S16 32) a x).toNat < S32768.size a)
theorem k1_idx22_inb : ∀ (v357 : IVec S16 32) (k1_hw22 : k1_chk22 v357), ∀ a x, ((![v357] : Fin 1 → IVec S16 32) a x).toNat < S32768.size a := fun v357 k1_hw22 => k1_hw22
def k1_off27 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v360 : Index := Scalar.indexCast arg17
  let c96_199 : Index := 96#32
  ![v360.toNat, 96]

def k1_chk23 (v362 : IVec S16 32) : Prop :=
  (∀ a x, ((![v362] : Fin 1 → IVec S16 32) a x).toNat < S32768.size a)
theorem k1_idx23_inb : ∀ (v362 : IVec S16 32) (k1_hw23 : k1_chk23 v362), ∀ a x, ((![v362] : Fin 1 → IVec S16 32) a x).toNat < S32768.size a := fun v362 k1_hw23 => k1_hw23
def k1_off28 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v365 : Index := Scalar.indexCast arg17
  let c112_200 : Index := 112#32
  ![v365.toNat, 112]

def k1_chk24 (v367 : IVec S16 32) : Prop :=
  (∀ a x, ((![v367] : Fin 1 → IVec S16 32) a x).toNat < S32768.size a)
theorem k1_idx24_inb : ∀ (v367 : IVec S16 32) (k1_hw24 : k1_chk24 v367), ∀ a x, ((![v367] : Fin 1 → IVec S16 32) a x).toNat < S32768.size a := fun v367 k1_hw24 => k1_hw24
def k1_off29 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v370 : Index := Scalar.indexCast arg17
  let c128_201 : Index := 128#32
  ![v370.toNat, 128]

def k1_chk25 (v372 : IVec S16 32) : Prop :=
  (∀ a x, ((![v372] : Fin 1 → IVec S16 32) a x).toNat < S32768.size a)
theorem k1_idx25_inb : ∀ (v372 : IVec S16 32) (k1_hw25 : k1_chk25 v372), ∀ a x, ((![v372] : Fin 1 → IVec S16 32) a x).toNat < S32768.size a := fun v372 k1_hw25 => k1_hw25
def k1_off30 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v375 : Index := Scalar.indexCast arg17
  let c144_202 : Index := 144#32
  ![v375.toNat, 144]

def k1_chk26 (v377 : IVec S16 32) : Prop :=
  (∀ a x, ((![v377] : Fin 1 → IVec S16 32) a x).toNat < S32768.size a)
theorem k1_idx26_inb : ∀ (v377 : IVec S16 32) (k1_hw26 : k1_chk26 v377), ∀ a x, ((![v377] : Fin 1 → IVec S16 32) a x).toNat < S32768.size a := fun v377 k1_hw26 => k1_hw26
def k1_off31 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v380 : Index := Scalar.indexCast arg17
  let c160_203 : Index := 160#32
  ![v380.toNat, 160]

def k1_chk27 (v382 : IVec S16 32) : Prop :=
  (∀ a x, ((![v382] : Fin 1 → IVec S16 32) a x).toNat < S32768.size a)
theorem k1_idx27_inb : ∀ (v382 : IVec S16 32) (k1_hw27 : k1_chk27 v382), ∀ a x, ((![v382] : Fin 1 → IVec S16 32) a x).toNat < S32768.size a := fun v382 k1_hw27 => k1_hw27
def k1_off32 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v385 : Index := Scalar.indexCast arg17
  let c176_204 : Index := 176#32
  ![v385.toNat, 176]

def k1_chk28 (v387 : IVec S16 32) : Prop :=
  (∀ a x, ((![v387] : Fin 1 → IVec S16 32) a x).toNat < S32768.size a)
theorem k1_idx28_inb : ∀ (v387 : IVec S16 32) (k1_hw28 : k1_chk28 v387), ∀ a x, ((![v387] : Fin 1 → IVec S16 32) a x).toNat < S32768.size a := fun v387 k1_hw28 => k1_hw28
def k1_off33 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v390 : Index := Scalar.indexCast arg17
  let c192_205 : Index := 192#32
  ![v390.toNat, 192]

def k1_chk29 (v392 : IVec S16 32) : Prop :=
  (∀ a x, ((![v392] : Fin 1 → IVec S16 32) a x).toNat < S32768.size a)
theorem k1_idx29_inb : ∀ (v392 : IVec S16 32) (k1_hw29 : k1_chk29 v392), ∀ a x, ((![v392] : Fin 1 → IVec S16 32) a x).toNat < S32768.size a := fun v392 k1_hw29 => k1_hw29
def k1_off34 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v395 : Index := Scalar.indexCast arg17
  let c208_206 : Index := 208#32
  ![v395.toNat, 208]

def k1_chk30 (v397 : IVec S16 32) : Prop :=
  (∀ a x, ((![v397] : Fin 1 → IVec S16 32) a x).toNat < S32768.size a)
theorem k1_idx30_inb : ∀ (v397 : IVec S16 32) (k1_hw30 : k1_chk30 v397), ∀ a x, ((![v397] : Fin 1 → IVec S16 32) a x).toNat < S32768.size a := fun v397 k1_hw30 => k1_hw30
def k1_off35 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v400 : Index := Scalar.indexCast arg17
  let c224_207 : Index := 224#32
  ![v400.toNat, 224]

def k1_chk31 (v402 : IVec S16 32) : Prop :=
  (∀ a x, ((![v402] : Fin 1 → IVec S16 32) a x).toNat < S32768.size a)
theorem k1_idx31_inb : ∀ (v402 : IVec S16 32) (k1_hw31 : k1_chk31 v402), ∀ a x, ((![v402] : Fin 1 → IVec S16 32) a x).toNat < S32768.size a := fun v402 k1_hw31 => k1_hw31
def k1_off36 (k1_t2 : Fin k1_t2_loop.trips) : Fin 2 → Nat :=
  let c0_i32_53 : BitVec 32 := 0#32
  let c1_i32_55 : BitVec 32 := 1#32
  let arg17 : BitVec 32 := Scf.iv c0_i32_53 c1_i32_55 k1_t2
  let v405 : Index := Scalar.indexCast arg17
  let c240_208 : Index := 240#32
  ![v405.toNat, 240]

def k1_chk32 (v407 : IVec S16 32) : Prop :=
  (∀ a x, ((![v407] : Fin 1 → IVec S16 32) a x).toNat < S32768.size a)
theorem k1_idx32_inb : ∀ (v407 : IVec S16 32) (k1_hw32 : k1_chk32 v407), ∀ a x, ((![v407] : Fin 1 → IVec S16 32) a x).toNat < S32768.size a := fun v407 k1_hw32 => k1_hw32
def k1_off37 (i : grid1.Coords) : Fin 3 → Nat :=
  let c3_i32_59 : BitVec 32 := 3#32
  let c0_i32_60 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![3, 0, v3.toNat]
@[reducible] def k1_t3_loop : Scf.Loop 32 :=
  let c0_i32_68 : BitVec 32 := 0#32
  let c64_i32_69 : BitVec 32 := 64#32
  let v99 : BitVec 32 := Scalar.addi c0_i32_68 c64_i32_69
  let c1_i32_70 : BitVec 32 := 1#32
  ⟨c0_i32_68, v99, c1_i32_70⟩
def k1_off38 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v330 : Index := Scalar.indexCast arg17
  let c0_193 : Index := 0#32
  ![v330.toNat, 0]

def k1_chk33 (v332 : IVec S16 32) : Prop :=
  (∀ a x, ((![v332] : Fin 1 → IVec S16 32) a x).toNat < S32768.size a)
theorem k1_idx33_inb : ∀ (v332 : IVec S16 32) (k1_hw33 : k1_chk33 v332), ∀ a x, ((![v332] : Fin 1 → IVec S16 32) a x).toNat < S32768.size a := fun v332 k1_hw33 => k1_hw33
def k1_off39 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v335 : Index := Scalar.indexCast arg17
  let c16_194 : Index := 16#32
  ![v335.toNat, 16]

def k1_chk34 (v337 : IVec S16 32) : Prop :=
  (∀ a x, ((![v337] : Fin 1 → IVec S16 32) a x).toNat < S32768.size a)
theorem k1_idx34_inb : ∀ (v337 : IVec S16 32) (k1_hw34 : k1_chk34 v337), ∀ a x, ((![v337] : Fin 1 → IVec S16 32) a x).toNat < S32768.size a := fun v337 k1_hw34 => k1_hw34
def k1_off40 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v340 : Index := Scalar.indexCast arg17
  let c32_195 : Index := 32#32
  ![v340.toNat, 32]

def k1_chk35 (v342 : IVec S16 32) : Prop :=
  (∀ a x, ((![v342] : Fin 1 → IVec S16 32) a x).toNat < S32768.size a)
theorem k1_idx35_inb : ∀ (v342 : IVec S16 32) (k1_hw35 : k1_chk35 v342), ∀ a x, ((![v342] : Fin 1 → IVec S16 32) a x).toNat < S32768.size a := fun v342 k1_hw35 => k1_hw35
def k1_off41 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v345 : Index := Scalar.indexCast arg17
  let c48_196 : Index := 48#32
  ![v345.toNat, 48]

def k1_chk36 (v347 : IVec S16 32) : Prop :=
  (∀ a x, ((![v347] : Fin 1 → IVec S16 32) a x).toNat < S32768.size a)
theorem k1_idx36_inb : ∀ (v347 : IVec S16 32) (k1_hw36 : k1_chk36 v347), ∀ a x, ((![v347] : Fin 1 → IVec S16 32) a x).toNat < S32768.size a := fun v347 k1_hw36 => k1_hw36
def k1_off42 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v350 : Index := Scalar.indexCast arg17
  let c64_197 : Index := 64#32
  ![v350.toNat, 64]

def k1_chk37 (v352 : IVec S16 32) : Prop :=
  (∀ a x, ((![v352] : Fin 1 → IVec S16 32) a x).toNat < S32768.size a)
theorem k1_idx37_inb : ∀ (v352 : IVec S16 32) (k1_hw37 : k1_chk37 v352), ∀ a x, ((![v352] : Fin 1 → IVec S16 32) a x).toNat < S32768.size a := fun v352 k1_hw37 => k1_hw37
def k1_off43 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v355 : Index := Scalar.indexCast arg17
  let c80_198 : Index := 80#32
  ![v355.toNat, 80]

def k1_chk38 (v357 : IVec S16 32) : Prop :=
  (∀ a x, ((![v357] : Fin 1 → IVec S16 32) a x).toNat < S32768.size a)
theorem k1_idx38_inb : ∀ (v357 : IVec S16 32) (k1_hw38 : k1_chk38 v357), ∀ a x, ((![v357] : Fin 1 → IVec S16 32) a x).toNat < S32768.size a := fun v357 k1_hw38 => k1_hw38
def k1_off44 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v360 : Index := Scalar.indexCast arg17
  let c96_199 : Index := 96#32
  ![v360.toNat, 96]

def k1_chk39 (v362 : IVec S16 32) : Prop :=
  (∀ a x, ((![v362] : Fin 1 → IVec S16 32) a x).toNat < S32768.size a)
theorem k1_idx39_inb : ∀ (v362 : IVec S16 32) (k1_hw39 : k1_chk39 v362), ∀ a x, ((![v362] : Fin 1 → IVec S16 32) a x).toNat < S32768.size a := fun v362 k1_hw39 => k1_hw39
def k1_off45 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v365 : Index := Scalar.indexCast arg17
  let c112_200 : Index := 112#32
  ![v365.toNat, 112]

def k1_chk40 (v367 : IVec S16 32) : Prop :=
  (∀ a x, ((![v367] : Fin 1 → IVec S16 32) a x).toNat < S32768.size a)
theorem k1_idx40_inb : ∀ (v367 : IVec S16 32) (k1_hw40 : k1_chk40 v367), ∀ a x, ((![v367] : Fin 1 → IVec S16 32) a x).toNat < S32768.size a := fun v367 k1_hw40 => k1_hw40
def k1_off46 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v370 : Index := Scalar.indexCast arg17
  let c128_201 : Index := 128#32
  ![v370.toNat, 128]

def k1_chk41 (v372 : IVec S16 32) : Prop :=
  (∀ a x, ((![v372] : Fin 1 → IVec S16 32) a x).toNat < S32768.size a)
theorem k1_idx41_inb : ∀ (v372 : IVec S16 32) (k1_hw41 : k1_chk41 v372), ∀ a x, ((![v372] : Fin 1 → IVec S16 32) a x).toNat < S32768.size a := fun v372 k1_hw41 => k1_hw41
def k1_off47 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v375 : Index := Scalar.indexCast arg17
  let c144_202 : Index := 144#32
  ![v375.toNat, 144]

def k1_chk42 (v377 : IVec S16 32) : Prop :=
  (∀ a x, ((![v377] : Fin 1 → IVec S16 32) a x).toNat < S32768.size a)
theorem k1_idx42_inb : ∀ (v377 : IVec S16 32) (k1_hw42 : k1_chk42 v377), ∀ a x, ((![v377] : Fin 1 → IVec S16 32) a x).toNat < S32768.size a := fun v377 k1_hw42 => k1_hw42
def k1_off48 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v380 : Index := Scalar.indexCast arg17
  let c160_203 : Index := 160#32
  ![v380.toNat, 160]

def k1_chk43 (v382 : IVec S16 32) : Prop :=
  (∀ a x, ((![v382] : Fin 1 → IVec S16 32) a x).toNat < S32768.size a)
theorem k1_idx43_inb : ∀ (v382 : IVec S16 32) (k1_hw43 : k1_chk43 v382), ∀ a x, ((![v382] : Fin 1 → IVec S16 32) a x).toNat < S32768.size a := fun v382 k1_hw43 => k1_hw43
def k1_off49 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v385 : Index := Scalar.indexCast arg17
  let c176_204 : Index := 176#32
  ![v385.toNat, 176]

def k1_chk44 (v387 : IVec S16 32) : Prop :=
  (∀ a x, ((![v387] : Fin 1 → IVec S16 32) a x).toNat < S32768.size a)
theorem k1_idx44_inb : ∀ (v387 : IVec S16 32) (k1_hw44 : k1_chk44 v387), ∀ a x, ((![v387] : Fin 1 → IVec S16 32) a x).toNat < S32768.size a := fun v387 k1_hw44 => k1_hw44
def k1_off50 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v390 : Index := Scalar.indexCast arg17
  let c192_205 : Index := 192#32
  ![v390.toNat, 192]

def k1_chk45 (v392 : IVec S16 32) : Prop :=
  (∀ a x, ((![v392] : Fin 1 → IVec S16 32) a x).toNat < S32768.size a)
theorem k1_idx45_inb : ∀ (v392 : IVec S16 32) (k1_hw45 : k1_chk45 v392), ∀ a x, ((![v392] : Fin 1 → IVec S16 32) a x).toNat < S32768.size a := fun v392 k1_hw45 => k1_hw45
def k1_off51 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v395 : Index := Scalar.indexCast arg17
  let c208_206 : Index := 208#32
  ![v395.toNat, 208]

def k1_chk46 (v397 : IVec S16 32) : Prop :=
  (∀ a x, ((![v397] : Fin 1 → IVec S16 32) a x).toNat < S32768.size a)
theorem k1_idx46_inb : ∀ (v397 : IVec S16 32) (k1_hw46 : k1_chk46 v397), ∀ a x, ((![v397] : Fin 1 → IVec S16 32) a x).toNat < S32768.size a := fun v397 k1_hw46 => k1_hw46
def k1_off52 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v400 : Index := Scalar.indexCast arg17
  let c224_207 : Index := 224#32
  ![v400.toNat, 224]

def k1_chk47 (v402 : IVec S16 32) : Prop :=
  (∀ a x, ((![v402] : Fin 1 → IVec S16 32) a x).toNat < S32768.size a)
theorem k1_idx47_inb : ∀ (v402 : IVec S16 32) (k1_hw47 : k1_chk47 v402), ∀ a x, ((![v402] : Fin 1 → IVec S16 32) a x).toNat < S32768.size a := fun v402 k1_hw47 => k1_hw47
def k1_off53 (k1_t3 : Fin k1_t3_loop.trips) : Fin 2 → Nat :=
  let c0_i32_68 : BitVec 32 := 0#32
  let c1_i32_70 : BitVec 32 := 1#32
  let arg17 : BitVec 32 := Scf.iv c0_i32_68 c1_i32_70 k1_t3
  let v405 : Index := Scalar.indexCast arg17
  let c240_208 : Index := 240#32
  ![v405.toNat, 240]

def k1_chk48 (v407 : IVec S16 32) : Prop :=
  (∀ a x, ((![v407] : Fin 1 → IVec S16 32) a x).toNat < S32768.size a)
theorem k1_idx48_inb : ∀ (v407 : IVec S16 32) (k1_hw48 : k1_chk48 v407), ∀ a x, ((![v407] : Fin 1 → IVec S16 32) a x).toNat < S32768.size a := fun v407 k1_hw48 => k1_hw48
def k1_off54 (i : grid1.Coords) : Fin 3 → Nat :=
  let c4_i32_74 : BitVec 32 := 4#32
  let c0_i32_75 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![4, 0, v3.toNat]
@[reducible] def k1_t4_loop : Scf.Loop 32 :=
  let c0_i32_83 : BitVec 32 := 0#32
  let c64_i32_84 : BitVec 32 := 64#32
  let v117 : BitVec 32 := Scalar.addi c0_i32_83 c64_i32_84
  let c1_i32_85 : BitVec 32 := 1#32
  ⟨c0_i32_83, v117, c1_i32_85⟩
def k1_off55 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v330 : Index := Scalar.indexCast arg17
  let c0_193 : Index := 0#32
  ![v330.toNat, 0]

def k1_chk49 (v332 : IVec S16 32) : Prop :=
  (∀ a x, ((![v332] : Fin 1 → IVec S16 32) a x).toNat < S32768.size a)
theorem k1_idx49_inb : ∀ (v332 : IVec S16 32) (k1_hw49 : k1_chk49 v332), ∀ a x, ((![v332] : Fin 1 → IVec S16 32) a x).toNat < S32768.size a := fun v332 k1_hw49 => k1_hw49
def k1_off56 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v335 : Index := Scalar.indexCast arg17
  let c16_194 : Index := 16#32
  ![v335.toNat, 16]

def k1_chk50 (v337 : IVec S16 32) : Prop :=
  (∀ a x, ((![v337] : Fin 1 → IVec S16 32) a x).toNat < S32768.size a)
theorem k1_idx50_inb : ∀ (v337 : IVec S16 32) (k1_hw50 : k1_chk50 v337), ∀ a x, ((![v337] : Fin 1 → IVec S16 32) a x).toNat < S32768.size a := fun v337 k1_hw50 => k1_hw50
def k1_off57 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v340 : Index := Scalar.indexCast arg17
  let c32_195 : Index := 32#32
  ![v340.toNat, 32]

def k1_chk51 (v342 : IVec S16 32) : Prop :=
  (∀ a x, ((![v342] : Fin 1 → IVec S16 32) a x).toNat < S32768.size a)
theorem k1_idx51_inb : ∀ (v342 : IVec S16 32) (k1_hw51 : k1_chk51 v342), ∀ a x, ((![v342] : Fin 1 → IVec S16 32) a x).toNat < S32768.size a := fun v342 k1_hw51 => k1_hw51
def k1_off58 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v345 : Index := Scalar.indexCast arg17
  let c48_196 : Index := 48#32
  ![v345.toNat, 48]

def k1_chk52 (v347 : IVec S16 32) : Prop :=
  (∀ a x, ((![v347] : Fin 1 → IVec S16 32) a x).toNat < S32768.size a)
theorem k1_idx52_inb : ∀ (v347 : IVec S16 32) (k1_hw52 : k1_chk52 v347), ∀ a x, ((![v347] : Fin 1 → IVec S16 32) a x).toNat < S32768.size a := fun v347 k1_hw52 => k1_hw52
def k1_off59 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v350 : Index := Scalar.indexCast arg17
  let c64_197 : Index := 64#32
  ![v350.toNat, 64]

def k1_chk53 (v352 : IVec S16 32) : Prop :=
  (∀ a x, ((![v352] : Fin 1 → IVec S16 32) a x).toNat < S32768.size a)
theorem k1_idx53_inb : ∀ (v352 : IVec S16 32) (k1_hw53 : k1_chk53 v352), ∀ a x, ((![v352] : Fin 1 → IVec S16 32) a x).toNat < S32768.size a := fun v352 k1_hw53 => k1_hw53
def k1_off60 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v355 : Index := Scalar.indexCast arg17
  let c80_198 : Index := 80#32
  ![v355.toNat, 80]

def k1_chk54 (v357 : IVec S16 32) : Prop :=
  (∀ a x, ((![v357] : Fin 1 → IVec S16 32) a x).toNat < S32768.size a)
theorem k1_idx54_inb : ∀ (v357 : IVec S16 32) (k1_hw54 : k1_chk54 v357), ∀ a x, ((![v357] : Fin 1 → IVec S16 32) a x).toNat < S32768.size a := fun v357 k1_hw54 => k1_hw54
def k1_off61 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v360 : Index := Scalar.indexCast arg17
  let c96_199 : Index := 96#32
  ![v360.toNat, 96]

def k1_chk55 (v362 : IVec S16 32) : Prop :=
  (∀ a x, ((![v362] : Fin 1 → IVec S16 32) a x).toNat < S32768.size a)
theorem k1_idx55_inb : ∀ (v362 : IVec S16 32) (k1_hw55 : k1_chk55 v362), ∀ a x, ((![v362] : Fin 1 → IVec S16 32) a x).toNat < S32768.size a := fun v362 k1_hw55 => k1_hw55
def k1_off62 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v365 : Index := Scalar.indexCast arg17
  let c112_200 : Index := 112#32
  ![v365.toNat, 112]

def k1_chk56 (v367 : IVec S16 32) : Prop :=
  (∀ a x, ((![v367] : Fin 1 → IVec S16 32) a x).toNat < S32768.size a)
theorem k1_idx56_inb : ∀ (v367 : IVec S16 32) (k1_hw56 : k1_chk56 v367), ∀ a x, ((![v367] : Fin 1 → IVec S16 32) a x).toNat < S32768.size a := fun v367 k1_hw56 => k1_hw56
def k1_off63 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v370 : Index := Scalar.indexCast arg17
  let c128_201 : Index := 128#32
  ![v370.toNat, 128]

def k1_chk57 (v372 : IVec S16 32) : Prop :=
  (∀ a x, ((![v372] : Fin 1 → IVec S16 32) a x).toNat < S32768.size a)
theorem k1_idx57_inb : ∀ (v372 : IVec S16 32) (k1_hw57 : k1_chk57 v372), ∀ a x, ((![v372] : Fin 1 → IVec S16 32) a x).toNat < S32768.size a := fun v372 k1_hw57 => k1_hw57
def k1_off64 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v375 : Index := Scalar.indexCast arg17
  let c144_202 : Index := 144#32
  ![v375.toNat, 144]

def k1_chk58 (v377 : IVec S16 32) : Prop :=
  (∀ a x, ((![v377] : Fin 1 → IVec S16 32) a x).toNat < S32768.size a)
theorem k1_idx58_inb : ∀ (v377 : IVec S16 32) (k1_hw58 : k1_chk58 v377), ∀ a x, ((![v377] : Fin 1 → IVec S16 32) a x).toNat < S32768.size a := fun v377 k1_hw58 => k1_hw58
def k1_off65 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v380 : Index := Scalar.indexCast arg17
  let c160_203 : Index := 160#32
  ![v380.toNat, 160]

def k1_chk59 (v382 : IVec S16 32) : Prop :=
  (∀ a x, ((![v382] : Fin 1 → IVec S16 32) a x).toNat < S32768.size a)
theorem k1_idx59_inb : ∀ (v382 : IVec S16 32) (k1_hw59 : k1_chk59 v382), ∀ a x, ((![v382] : Fin 1 → IVec S16 32) a x).toNat < S32768.size a := fun v382 k1_hw59 => k1_hw59
def k1_off66 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v385 : Index := Scalar.indexCast arg17
  let c176_204 : Index := 176#32
  ![v385.toNat, 176]

def k1_chk60 (v387 : IVec S16 32) : Prop :=
  (∀ a x, ((![v387] : Fin 1 → IVec S16 32) a x).toNat < S32768.size a)
theorem k1_idx60_inb : ∀ (v387 : IVec S16 32) (k1_hw60 : k1_chk60 v387), ∀ a x, ((![v387] : Fin 1 → IVec S16 32) a x).toNat < S32768.size a := fun v387 k1_hw60 => k1_hw60
def k1_off67 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v390 : Index := Scalar.indexCast arg17
  let c192_205 : Index := 192#32
  ![v390.toNat, 192]

def k1_chk61 (v392 : IVec S16 32) : Prop :=
  (∀ a x, ((![v392] : Fin 1 → IVec S16 32) a x).toNat < S32768.size a)
theorem k1_idx61_inb : ∀ (v392 : IVec S16 32) (k1_hw61 : k1_chk61 v392), ∀ a x, ((![v392] : Fin 1 → IVec S16 32) a x).toNat < S32768.size a := fun v392 k1_hw61 => k1_hw61
def k1_off68 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v395 : Index := Scalar.indexCast arg17
  let c208_206 : Index := 208#32
  ![v395.toNat, 208]

def k1_chk62 (v397 : IVec S16 32) : Prop :=
  (∀ a x, ((![v397] : Fin 1 → IVec S16 32) a x).toNat < S32768.size a)
theorem k1_idx62_inb : ∀ (v397 : IVec S16 32) (k1_hw62 : k1_chk62 v397), ∀ a x, ((![v397] : Fin 1 → IVec S16 32) a x).toNat < S32768.size a := fun v397 k1_hw62 => k1_hw62
def k1_off69 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v400 : Index := Scalar.indexCast arg17
  let c224_207 : Index := 224#32
  ![v400.toNat, 224]

def k1_chk63 (v402 : IVec S16 32) : Prop :=
  (∀ a x, ((![v402] : Fin 1 → IVec S16 32) a x).toNat < S32768.size a)
theorem k1_idx63_inb : ∀ (v402 : IVec S16 32) (k1_hw63 : k1_chk63 v402), ∀ a x, ((![v402] : Fin 1 → IVec S16 32) a x).toNat < S32768.size a := fun v402 k1_hw63 => k1_hw63
def k1_off70 (k1_t4 : Fin k1_t4_loop.trips) : Fin 2 → Nat :=
  let c0_i32_83 : BitVec 32 := 0#32
  let c1_i32_85 : BitVec 32 := 1#32
  let arg17 : BitVec 32 := Scf.iv c0_i32_83 c1_i32_85 k1_t4
  let v405 : Index := Scalar.indexCast arg17
  let c240_208 : Index := 240#32
  ![v405.toNat, 240]

def k1_chk64 (v407 : IVec S16 32) : Prop :=
  (∀ a x, ((![v407] : Fin 1 → IVec S16 32) a x).toNat < S32768.size a)
theorem k1_idx64_inb : ∀ (v407 : IVec S16 32) (k1_hw64 : k1_chk64 v407), ∀ a x, ((![v407] : Fin 1 → IVec S16 32) a x).toNat < S32768.size a := fun v407 k1_hw64 => k1_hw64
def k1_off71 (i : grid1.Coords) : Fin 3 → Nat :=
  let c5_i32_89 : BitVec 32 := 5#32
  let c0_i32_90 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![5, 0, v3.toNat]
@[reducible] def k1_t5_loop : Scf.Loop 32 :=
  let c0_i32_98 : BitVec 32 := 0#32
  let c64_i32_99 : BitVec 32 := 64#32
  let v135 : BitVec 32 := Scalar.addi c0_i32_98 c64_i32_99
  let c1_i32_100 : BitVec 32 := 1#32
  ⟨c0_i32_98, v135, c1_i32_100⟩
def k1_off72 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v330 : Index := Scalar.indexCast arg17
  let c0_193 : Index := 0#32
  ![v330.toNat, 0]

def k1_chk65 (v332 : IVec S16 32) : Prop :=
  (∀ a x, ((![v332] : Fin 1 → IVec S16 32) a x).toNat < S32768.size a)
theorem k1_idx65_inb : ∀ (v332 : IVec S16 32) (k1_hw65 : k1_chk65 v332), ∀ a x, ((![v332] : Fin 1 → IVec S16 32) a x).toNat < S32768.size a := fun v332 k1_hw65 => k1_hw65
def k1_off73 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v335 : Index := Scalar.indexCast arg17
  let c16_194 : Index := 16#32
  ![v335.toNat, 16]

def k1_chk66 (v337 : IVec S16 32) : Prop :=
  (∀ a x, ((![v337] : Fin 1 → IVec S16 32) a x).toNat < S32768.size a)
theorem k1_idx66_inb : ∀ (v337 : IVec S16 32) (k1_hw66 : k1_chk66 v337), ∀ a x, ((![v337] : Fin 1 → IVec S16 32) a x).toNat < S32768.size a := fun v337 k1_hw66 => k1_hw66
def k1_off74 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v340 : Index := Scalar.indexCast arg17
  let c32_195 : Index := 32#32
  ![v340.toNat, 32]

def k1_chk67 (v342 : IVec S16 32) : Prop :=
  (∀ a x, ((![v342] : Fin 1 → IVec S16 32) a x).toNat < S32768.size a)
theorem k1_idx67_inb : ∀ (v342 : IVec S16 32) (k1_hw67 : k1_chk67 v342), ∀ a x, ((![v342] : Fin 1 → IVec S16 32) a x).toNat < S32768.size a := fun v342 k1_hw67 => k1_hw67
def k1_off75 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v345 : Index := Scalar.indexCast arg17
  let c48_196 : Index := 48#32
  ![v345.toNat, 48]

def k1_chk68 (v347 : IVec S16 32) : Prop :=
  (∀ a x, ((![v347] : Fin 1 → IVec S16 32) a x).toNat < S32768.size a)
theorem k1_idx68_inb : ∀ (v347 : IVec S16 32) (k1_hw68 : k1_chk68 v347), ∀ a x, ((![v347] : Fin 1 → IVec S16 32) a x).toNat < S32768.size a := fun v347 k1_hw68 => k1_hw68
def k1_off76 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v350 : Index := Scalar.indexCast arg17
  let c64_197 : Index := 64#32
  ![v350.toNat, 64]

def k1_chk69 (v352 : IVec S16 32) : Prop :=
  (∀ a x, ((![v352] : Fin 1 → IVec S16 32) a x).toNat < S32768.size a)
theorem k1_idx69_inb : ∀ (v352 : IVec S16 32) (k1_hw69 : k1_chk69 v352), ∀ a x, ((![v352] : Fin 1 → IVec S16 32) a x).toNat < S32768.size a := fun v352 k1_hw69 => k1_hw69
def k1_off77 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v355 : Index := Scalar.indexCast arg17
  let c80_198 : Index := 80#32
  ![v355.toNat, 80]

def k1_chk70 (v357 : IVec S16 32) : Prop :=
  (∀ a x, ((![v357] : Fin 1 → IVec S16 32) a x).toNat < S32768.size a)
theorem k1_idx70_inb : ∀ (v357 : IVec S16 32) (k1_hw70 : k1_chk70 v357), ∀ a x, ((![v357] : Fin 1 → IVec S16 32) a x).toNat < S32768.size a := fun v357 k1_hw70 => k1_hw70
def k1_off78 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v360 : Index := Scalar.indexCast arg17
  let c96_199 : Index := 96#32
  ![v360.toNat, 96]

def k1_chk71 (v362 : IVec S16 32) : Prop :=
  (∀ a x, ((![v362] : Fin 1 → IVec S16 32) a x).toNat < S32768.size a)
theorem k1_idx71_inb : ∀ (v362 : IVec S16 32) (k1_hw71 : k1_chk71 v362), ∀ a x, ((![v362] : Fin 1 → IVec S16 32) a x).toNat < S32768.size a := fun v362 k1_hw71 => k1_hw71
def k1_off79 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v365 : Index := Scalar.indexCast arg17
  let c112_200 : Index := 112#32
  ![v365.toNat, 112]

def k1_chk72 (v367 : IVec S16 32) : Prop :=
  (∀ a x, ((![v367] : Fin 1 → IVec S16 32) a x).toNat < S32768.size a)
theorem k1_idx72_inb : ∀ (v367 : IVec S16 32) (k1_hw72 : k1_chk72 v367), ∀ a x, ((![v367] : Fin 1 → IVec S16 32) a x).toNat < S32768.size a := fun v367 k1_hw72 => k1_hw72
def k1_off80 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v370 : Index := Scalar.indexCast arg17
  let c128_201 : Index := 128#32
  ![v370.toNat, 128]

def k1_chk73 (v372 : IVec S16 32) : Prop :=
  (∀ a x, ((![v372] : Fin 1 → IVec S16 32) a x).toNat < S32768.size a)
theorem k1_idx73_inb : ∀ (v372 : IVec S16 32) (k1_hw73 : k1_chk73 v372), ∀ a x, ((![v372] : Fin 1 → IVec S16 32) a x).toNat < S32768.size a := fun v372 k1_hw73 => k1_hw73
def k1_off81 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v375 : Index := Scalar.indexCast arg17
  let c144_202 : Index := 144#32
  ![v375.toNat, 144]

def k1_chk74 (v377 : IVec S16 32) : Prop :=
  (∀ a x, ((![v377] : Fin 1 → IVec S16 32) a x).toNat < S32768.size a)
theorem k1_idx74_inb : ∀ (v377 : IVec S16 32) (k1_hw74 : k1_chk74 v377), ∀ a x, ((![v377] : Fin 1 → IVec S16 32) a x).toNat < S32768.size a := fun v377 k1_hw74 => k1_hw74
def k1_off82 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v380 : Index := Scalar.indexCast arg17
  let c160_203 : Index := 160#32
  ![v380.toNat, 160]

def k1_chk75 (v382 : IVec S16 32) : Prop :=
  (∀ a x, ((![v382] : Fin 1 → IVec S16 32) a x).toNat < S32768.size a)
theorem k1_idx75_inb : ∀ (v382 : IVec S16 32) (k1_hw75 : k1_chk75 v382), ∀ a x, ((![v382] : Fin 1 → IVec S16 32) a x).toNat < S32768.size a := fun v382 k1_hw75 => k1_hw75
def k1_off83 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v385 : Index := Scalar.indexCast arg17
  let c176_204 : Index := 176#32
  ![v385.toNat, 176]

def k1_chk76 (v387 : IVec S16 32) : Prop :=
  (∀ a x, ((![v387] : Fin 1 → IVec S16 32) a x).toNat < S32768.size a)
theorem k1_idx76_inb : ∀ (v387 : IVec S16 32) (k1_hw76 : k1_chk76 v387), ∀ a x, ((![v387] : Fin 1 → IVec S16 32) a x).toNat < S32768.size a := fun v387 k1_hw76 => k1_hw76
def k1_off84 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v390 : Index := Scalar.indexCast arg17
  let c192_205 : Index := 192#32
  ![v390.toNat, 192]

def k1_chk77 (v392 : IVec S16 32) : Prop :=
  (∀ a x, ((![v392] : Fin 1 → IVec S16 32) a x).toNat < S32768.size a)
theorem k1_idx77_inb : ∀ (v392 : IVec S16 32) (k1_hw77 : k1_chk77 v392), ∀ a x, ((![v392] : Fin 1 → IVec S16 32) a x).toNat < S32768.size a := fun v392 k1_hw77 => k1_hw77
def k1_off85 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v395 : Index := Scalar.indexCast arg17
  let c208_206 : Index := 208#32
  ![v395.toNat, 208]

def k1_chk78 (v397 : IVec S16 32) : Prop :=
  (∀ a x, ((![v397] : Fin 1 → IVec S16 32) a x).toNat < S32768.size a)
theorem k1_idx78_inb : ∀ (v397 : IVec S16 32) (k1_hw78 : k1_chk78 v397), ∀ a x, ((![v397] : Fin 1 → IVec S16 32) a x).toNat < S32768.size a := fun v397 k1_hw78 => k1_hw78
def k1_off86 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v400 : Index := Scalar.indexCast arg17
  let c224_207 : Index := 224#32
  ![v400.toNat, 224]

def k1_chk79 (v402 : IVec S16 32) : Prop :=
  (∀ a x, ((![v402] : Fin 1 → IVec S16 32) a x).toNat < S32768.size a)
theorem k1_idx79_inb : ∀ (v402 : IVec S16 32) (k1_hw79 : k1_chk79 v402), ∀ a x, ((![v402] : Fin 1 → IVec S16 32) a x).toNat < S32768.size a := fun v402 k1_hw79 => k1_hw79
def k1_off87 (k1_t5 : Fin k1_t5_loop.trips) : Fin 2 → Nat :=
  let c0_i32_98 : BitVec 32 := 0#32
  let c1_i32_100 : BitVec 32 := 1#32
  let arg17 : BitVec 32 := Scf.iv c0_i32_98 c1_i32_100 k1_t5
  let v405 : Index := Scalar.indexCast arg17
  let c240_208 : Index := 240#32
  ![v405.toNat, 240]

def k1_chk80 (v407 : IVec S16 32) : Prop :=
  (∀ a x, ((![v407] : Fin 1 → IVec S16 32) a x).toNat < S32768.size a)
theorem k1_idx80_inb : ∀ (v407 : IVec S16 32) (k1_hw80 : k1_chk80 v407), ∀ a x, ((![v407] : Fin 1 → IVec S16 32) a x).toNat < S32768.size a := fun v407 k1_hw80 => k1_hw80
def k1_off88 (i : grid1.Coords) : Fin 3 → Nat :=
  let c6_i32_104 : BitVec 32 := 6#32
  let c0_i32_105 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![6, 0, v3.toNat]
@[reducible] def k1_t6_loop : Scf.Loop 32 :=
  let c0_i32_113 : BitVec 32 := 0#32
  let c64_i32_114 : BitVec 32 := 64#32
  let v153 : BitVec 32 := Scalar.addi c0_i32_113 c64_i32_114
  let c1_i32_115 : BitVec 32 := 1#32
  ⟨c0_i32_113, v153, c1_i32_115⟩
def k1_off89 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v330 : Index := Scalar.indexCast arg17
  let c0_193 : Index := 0#32
  ![v330.toNat, 0]

def k1_chk81 (v332 : IVec S16 32) : Prop :=
  (∀ a x, ((![v332] : Fin 1 → IVec S16 32) a x).toNat < S32768.size a)
theorem k1_idx81_inb : ∀ (v332 : IVec S16 32) (k1_hw81 : k1_chk81 v332), ∀ a x, ((![v332] : Fin 1 → IVec S16 32) a x).toNat < S32768.size a := fun v332 k1_hw81 => k1_hw81
def k1_off90 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v335 : Index := Scalar.indexCast arg17
  let c16_194 : Index := 16#32
  ![v335.toNat, 16]

def k1_chk82 (v337 : IVec S16 32) : Prop :=
  (∀ a x, ((![v337] : Fin 1 → IVec S16 32) a x).toNat < S32768.size a)
theorem k1_idx82_inb : ∀ (v337 : IVec S16 32) (k1_hw82 : k1_chk82 v337), ∀ a x, ((![v337] : Fin 1 → IVec S16 32) a x).toNat < S32768.size a := fun v337 k1_hw82 => k1_hw82
def k1_off91 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v340 : Index := Scalar.indexCast arg17
  let c32_195 : Index := 32#32
  ![v340.toNat, 32]

def k1_chk83 (v342 : IVec S16 32) : Prop :=
  (∀ a x, ((![v342] : Fin 1 → IVec S16 32) a x).toNat < S32768.size a)
theorem k1_idx83_inb : ∀ (v342 : IVec S16 32) (k1_hw83 : k1_chk83 v342), ∀ a x, ((![v342] : Fin 1 → IVec S16 32) a x).toNat < S32768.size a := fun v342 k1_hw83 => k1_hw83
def k1_off92 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v345 : Index := Scalar.indexCast arg17
  let c48_196 : Index := 48#32
  ![v345.toNat, 48]

def k1_chk84 (v347 : IVec S16 32) : Prop :=
  (∀ a x, ((![v347] : Fin 1 → IVec S16 32) a x).toNat < S32768.size a)
theorem k1_idx84_inb : ∀ (v347 : IVec S16 32) (k1_hw84 : k1_chk84 v347), ∀ a x, ((![v347] : Fin 1 → IVec S16 32) a x).toNat < S32768.size a := fun v347 k1_hw84 => k1_hw84
def k1_off93 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v350 : Index := Scalar.indexCast arg17
  let c64_197 : Index := 64#32
  ![v350.toNat, 64]

def k1_chk85 (v352 : IVec S16 32) : Prop :=
  (∀ a x, ((![v352] : Fin 1 → IVec S16 32) a x).toNat < S32768.size a)
theorem k1_idx85_inb : ∀ (v352 : IVec S16 32) (k1_hw85 : k1_chk85 v352), ∀ a x, ((![v352] : Fin 1 → IVec S16 32) a x).toNat < S32768.size a := fun v352 k1_hw85 => k1_hw85
def k1_off94 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v355 : Index := Scalar.indexCast arg17
  let c80_198 : Index := 80#32
  ![v355.toNat, 80]

def k1_chk86 (v357 : IVec S16 32) : Prop :=
  (∀ a x, ((![v357] : Fin 1 → IVec S16 32) a x).toNat < S32768.size a)
theorem k1_idx86_inb : ∀ (v357 : IVec S16 32) (k1_hw86 : k1_chk86 v357), ∀ a x, ((![v357] : Fin 1 → IVec S16 32) a x).toNat < S32768.size a := fun v357 k1_hw86 => k1_hw86
def k1_off95 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v360 : Index := Scalar.indexCast arg17
  let c96_199 : Index := 96#32
  ![v360.toNat, 96]

def k1_chk87 (v362 : IVec S16 32) : Prop :=
  (∀ a x, ((![v362] : Fin 1 → IVec S16 32) a x).toNat < S32768.size a)
theorem k1_idx87_inb : ∀ (v362 : IVec S16 32) (k1_hw87 : k1_chk87 v362), ∀ a x, ((![v362] : Fin 1 → IVec S16 32) a x).toNat < S32768.size a := fun v362 k1_hw87 => k1_hw87
def k1_off96 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v365 : Index := Scalar.indexCast arg17
  let c112_200 : Index := 112#32
  ![v365.toNat, 112]

def k1_chk88 (v367 : IVec S16 32) : Prop :=
  (∀ a x, ((![v367] : Fin 1 → IVec S16 32) a x).toNat < S32768.size a)
theorem k1_idx88_inb : ∀ (v367 : IVec S16 32) (k1_hw88 : k1_chk88 v367), ∀ a x, ((![v367] : Fin 1 → IVec S16 32) a x).toNat < S32768.size a := fun v367 k1_hw88 => k1_hw88
def k1_off97 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v370 : Index := Scalar.indexCast arg17
  let c128_201 : Index := 128#32
  ![v370.toNat, 128]

def k1_chk89 (v372 : IVec S16 32) : Prop :=
  (∀ a x, ((![v372] : Fin 1 → IVec S16 32) a x).toNat < S32768.size a)
theorem k1_idx89_inb : ∀ (v372 : IVec S16 32) (k1_hw89 : k1_chk89 v372), ∀ a x, ((![v372] : Fin 1 → IVec S16 32) a x).toNat < S32768.size a := fun v372 k1_hw89 => k1_hw89
def k1_off98 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v375 : Index := Scalar.indexCast arg17
  let c144_202 : Index := 144#32
  ![v375.toNat, 144]

def k1_chk90 (v377 : IVec S16 32) : Prop :=
  (∀ a x, ((![v377] : Fin 1 → IVec S16 32) a x).toNat < S32768.size a)
theorem k1_idx90_inb : ∀ (v377 : IVec S16 32) (k1_hw90 : k1_chk90 v377), ∀ a x, ((![v377] : Fin 1 → IVec S16 32) a x).toNat < S32768.size a := fun v377 k1_hw90 => k1_hw90
def k1_off99 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v380 : Index := Scalar.indexCast arg17
  let c160_203 : Index := 160#32
  ![v380.toNat, 160]

def k1_chk91 (v382 : IVec S16 32) : Prop :=
  (∀ a x, ((![v382] : Fin 1 → IVec S16 32) a x).toNat < S32768.size a)
theorem k1_idx91_inb : ∀ (v382 : IVec S16 32) (k1_hw91 : k1_chk91 v382), ∀ a x, ((![v382] : Fin 1 → IVec S16 32) a x).toNat < S32768.size a := fun v382 k1_hw91 => k1_hw91
def k1_off100 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v385 : Index := Scalar.indexCast arg17
  let c176_204 : Index := 176#32
  ![v385.toNat, 176]

def k1_chk92 (v387 : IVec S16 32) : Prop :=
  (∀ a x, ((![v387] : Fin 1 → IVec S16 32) a x).toNat < S32768.size a)
theorem k1_idx92_inb : ∀ (v387 : IVec S16 32) (k1_hw92 : k1_chk92 v387), ∀ a x, ((![v387] : Fin 1 → IVec S16 32) a x).toNat < S32768.size a := fun v387 k1_hw92 => k1_hw92
def k1_off101 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v390 : Index := Scalar.indexCast arg17
  let c192_205 : Index := 192#32
  ![v390.toNat, 192]

def k1_chk93 (v392 : IVec S16 32) : Prop :=
  (∀ a x, ((![v392] : Fin 1 → IVec S16 32) a x).toNat < S32768.size a)
theorem k1_idx93_inb : ∀ (v392 : IVec S16 32) (k1_hw93 : k1_chk93 v392), ∀ a x, ((![v392] : Fin 1 → IVec S16 32) a x).toNat < S32768.size a := fun v392 k1_hw93 => k1_hw93
def k1_off102 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v395 : Index := Scalar.indexCast arg17
  let c208_206 : Index := 208#32
  ![v395.toNat, 208]

def k1_chk94 (v397 : IVec S16 32) : Prop :=
  (∀ a x, ((![v397] : Fin 1 → IVec S16 32) a x).toNat < S32768.size a)
theorem k1_idx94_inb : ∀ (v397 : IVec S16 32) (k1_hw94 : k1_chk94 v397), ∀ a x, ((![v397] : Fin 1 → IVec S16 32) a x).toNat < S32768.size a := fun v397 k1_hw94 => k1_hw94
def k1_off103 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v400 : Index := Scalar.indexCast arg17
  let c224_207 : Index := 224#32
  ![v400.toNat, 224]

def k1_chk95 (v402 : IVec S16 32) : Prop :=
  (∀ a x, ((![v402] : Fin 1 → IVec S16 32) a x).toNat < S32768.size a)
theorem k1_idx95_inb : ∀ (v402 : IVec S16 32) (k1_hw95 : k1_chk95 v402), ∀ a x, ((![v402] : Fin 1 → IVec S16 32) a x).toNat < S32768.size a := fun v402 k1_hw95 => k1_hw95
def k1_off104 (k1_t6 : Fin k1_t6_loop.trips) : Fin 2 → Nat :=
  let c0_i32_113 : BitVec 32 := 0#32
  let c1_i32_115 : BitVec 32 := 1#32
  let arg17 : BitVec 32 := Scf.iv c0_i32_113 c1_i32_115 k1_t6
  let v405 : Index := Scalar.indexCast arg17
  let c240_208 : Index := 240#32
  ![v405.toNat, 240]

def k1_chk96 (v407 : IVec S16 32) : Prop :=
  (∀ a x, ((![v407] : Fin 1 → IVec S16 32) a x).toNat < S32768.size a)
theorem k1_idx96_inb : ∀ (v407 : IVec S16 32) (k1_hw96 : k1_chk96 v407), ∀ a x, ((![v407] : Fin 1 → IVec S16 32) a x).toNat < S32768.size a := fun v407 k1_hw96 => k1_hw96
def k1_off105 (i : grid1.Coords) : Fin 3 → Nat :=
  let c7_i32_119 : BitVec 32 := 7#32
  let c0_i32_120 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_0 : BitVec 32 := 2#32
  let v3 : BitVec 32 := Scalar.muli v2 c2_i32_0
  ![7, 0, v3.toNat]
@[reducible] def k1_t7_loop : Scf.Loop 32 :=
  let c0_i32_128 : BitVec 32 := 0#32
  let c64_i32_129 : BitVec 32 := 64#32
  let v171 : BitVec 32 := Scalar.addi c0_i32_128 c64_i32_129
  let c1_i32_130 : BitVec 32 := 1#32
  ⟨c0_i32_128, v171, c1_i32_130⟩
def k1_off106 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v330 : Index := Scalar.indexCast arg17
  let c0_193 : Index := 0#32
  ![v330.toNat, 0]

def k1_chk97 (v332 : IVec S16 32) : Prop :=
  (∀ a x, ((![v332] : Fin 1 → IVec S16 32) a x).toNat < S32768.size a)
theorem k1_idx97_inb : ∀ (v332 : IVec S16 32) (k1_hw97 : k1_chk97 v332), ∀ a x, ((![v332] : Fin 1 → IVec S16 32) a x).toNat < S32768.size a := fun v332 k1_hw97 => k1_hw97
def k1_off107 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v335 : Index := Scalar.indexCast arg17
  let c16_194 : Index := 16#32
  ![v335.toNat, 16]

def k1_chk98 (v337 : IVec S16 32) : Prop :=
  (∀ a x, ((![v337] : Fin 1 → IVec S16 32) a x).toNat < S32768.size a)
theorem k1_idx98_inb : ∀ (v337 : IVec S16 32) (k1_hw98 : k1_chk98 v337), ∀ a x, ((![v337] : Fin 1 → IVec S16 32) a x).toNat < S32768.size a := fun v337 k1_hw98 => k1_hw98
def k1_off108 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v340 : Index := Scalar.indexCast arg17
  let c32_195 : Index := 32#32
  ![v340.toNat, 32]

def k1_chk99 (v342 : IVec S16 32) : Prop :=
  (∀ a x, ((![v342] : Fin 1 → IVec S16 32) a x).toNat < S32768.size a)
theorem k1_idx99_inb : ∀ (v342 : IVec S16 32) (k1_hw99 : k1_chk99 v342), ∀ a x, ((![v342] : Fin 1 → IVec S16 32) a x).toNat < S32768.size a := fun v342 k1_hw99 => k1_hw99
def k1_off109 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v345 : Index := Scalar.indexCast arg17
  let c48_196 : Index := 48#32
  ![v345.toNat, 48]

def k1_chk100 (v347 : IVec S16 32) : Prop :=
  (∀ a x, ((![v347] : Fin 1 → IVec S16 32) a x).toNat < S32768.size a)
theorem k1_idx100_inb : ∀ (v347 : IVec S16 32) (k1_hw100 : k1_chk100 v347), ∀ a x, ((![v347] : Fin 1 → IVec S16 32) a x).toNat < S32768.size a := fun v347 k1_hw100 => k1_hw100
def k1_off110 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v350 : Index := Scalar.indexCast arg17
  let c64_197 : Index := 64#32
  ![v350.toNat, 64]

def k1_chk101 (v352 : IVec S16 32) : Prop :=
  (∀ a x, ((![v352] : Fin 1 → IVec S16 32) a x).toNat < S32768.size a)
theorem k1_idx101_inb : ∀ (v352 : IVec S16 32) (k1_hw101 : k1_chk101 v352), ∀ a x, ((![v352] : Fin 1 → IVec S16 32) a x).toNat < S32768.size a := fun v352 k1_hw101 => k1_hw101
def k1_off111 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v355 : Index := Scalar.indexCast arg17
  let c80_198 : Index := 80#32
  ![v355.toNat, 80]

def k1_chk102 (v357 : IVec S16 32) : Prop :=
  (∀ a x, ((![v357] : Fin 1 → IVec S16 32) a x).toNat < S32768.size a)
theorem k1_idx102_inb : ∀ (v357 : IVec S16 32) (k1_hw102 : k1_chk102 v357), ∀ a x, ((![v357] : Fin 1 → IVec S16 32) a x).toNat < S32768.size a := fun v357 k1_hw102 => k1_hw102
def k1_off112 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v360 : Index := Scalar.indexCast arg17
  let c96_199 : Index := 96#32
  ![v360.toNat, 96]

def k1_chk103 (v362 : IVec S16 32) : Prop :=
  (∀ a x, ((![v362] : Fin 1 → IVec S16 32) a x).toNat < S32768.size a)
theorem k1_idx103_inb : ∀ (v362 : IVec S16 32) (k1_hw103 : k1_chk103 v362), ∀ a x, ((![v362] : Fin 1 → IVec S16 32) a x).toNat < S32768.size a := fun v362 k1_hw103 => k1_hw103
def k1_off113 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v365 : Index := Scalar.indexCast arg17
  let c112_200 : Index := 112#32
  ![v365.toNat, 112]

def k1_chk104 (v367 : IVec S16 32) : Prop :=
  (∀ a x, ((![v367] : Fin 1 → IVec S16 32) a x).toNat < S32768.size a)
theorem k1_idx104_inb : ∀ (v367 : IVec S16 32) (k1_hw104 : k1_chk104 v367), ∀ a x, ((![v367] : Fin 1 → IVec S16 32) a x).toNat < S32768.size a := fun v367 k1_hw104 => k1_hw104
def k1_off114 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v370 : Index := Scalar.indexCast arg17
  let c128_201 : Index := 128#32
  ![v370.toNat, 128]

def k1_chk105 (v372 : IVec S16 32) : Prop :=
  (∀ a x, ((![v372] : Fin 1 → IVec S16 32) a x).toNat < S32768.size a)
theorem k1_idx105_inb : ∀ (v372 : IVec S16 32) (k1_hw105 : k1_chk105 v372), ∀ a x, ((![v372] : Fin 1 → IVec S16 32) a x).toNat < S32768.size a := fun v372 k1_hw105 => k1_hw105
def k1_off115 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v375 : Index := Scalar.indexCast arg17
  let c144_202 : Index := 144#32
  ![v375.toNat, 144]

def k1_chk106 (v377 : IVec S16 32) : Prop :=
  (∀ a x, ((![v377] : Fin 1 → IVec S16 32) a x).toNat < S32768.size a)
theorem k1_idx106_inb : ∀ (v377 : IVec S16 32) (k1_hw106 : k1_chk106 v377), ∀ a x, ((![v377] : Fin 1 → IVec S16 32) a x).toNat < S32768.size a := fun v377 k1_hw106 => k1_hw106
def k1_off116 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v380 : Index := Scalar.indexCast arg17
  let c160_203 : Index := 160#32
  ![v380.toNat, 160]

def k1_chk107 (v382 : IVec S16 32) : Prop :=
  (∀ a x, ((![v382] : Fin 1 → IVec S16 32) a x).toNat < S32768.size a)
theorem k1_idx107_inb : ∀ (v382 : IVec S16 32) (k1_hw107 : k1_chk107 v382), ∀ a x, ((![v382] : Fin 1 → IVec S16 32) a x).toNat < S32768.size a := fun v382 k1_hw107 => k1_hw107
def k1_off117 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v385 : Index := Scalar.indexCast arg17
  let c176_204 : Index := 176#32
  ![v385.toNat, 176]

def k1_chk108 (v387 : IVec S16 32) : Prop :=
  (∀ a x, ((![v387] : Fin 1 → IVec S16 32) a x).toNat < S32768.size a)
theorem k1_idx108_inb : ∀ (v387 : IVec S16 32) (k1_hw108 : k1_chk108 v387), ∀ a x, ((![v387] : Fin 1 → IVec S16 32) a x).toNat < S32768.size a := fun v387 k1_hw108 => k1_hw108
def k1_off118 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v390 : Index := Scalar.indexCast arg17
  let c192_205 : Index := 192#32
  ![v390.toNat, 192]

def k1_chk109 (v392 : IVec S16 32) : Prop :=
  (∀ a x, ((![v392] : Fin 1 → IVec S16 32) a x).toNat < S32768.size a)
theorem k1_idx109_inb : ∀ (v392 : IVec S16 32) (k1_hw109 : k1_chk109 v392), ∀ a x, ((![v392] : Fin 1 → IVec S16 32) a x).toNat < S32768.size a := fun v392 k1_hw109 => k1_hw109
def k1_off119 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v395 : Index := Scalar.indexCast arg17
  let c208_206 : Index := 208#32
  ![v395.toNat, 208]

def k1_chk110 (v397 : IVec S16 32) : Prop :=
  (∀ a x, ((![v397] : Fin 1 → IVec S16 32) a x).toNat < S32768.size a)
theorem k1_idx110_inb : ∀ (v397 : IVec S16 32) (k1_hw110 : k1_chk110 v397), ∀ a x, ((![v397] : Fin 1 → IVec S16 32) a x).toNat < S32768.size a := fun v397 k1_hw110 => k1_hw110
def k1_off120 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v400 : Index := Scalar.indexCast arg17
  let c224_207 : Index := 224#32
  ![v400.toNat, 224]

def k1_chk111 (v402 : IVec S16 32) : Prop :=
  (∀ a x, ((![v402] : Fin 1 → IVec S16 32) a x).toNat < S32768.size a)
theorem k1_idx111_inb : ∀ (v402 : IVec S16 32) (k1_hw111 : k1_chk111 v402), ∀ a x, ((![v402] : Fin 1 → IVec S16 32) a x).toNat < S32768.size a := fun v402 k1_hw111 => k1_hw111
def k1_off121 (k1_t7 : Fin k1_t7_loop.trips) : Fin 2 → Nat :=
  let c0_i32_128 : BitVec 32 := 0#32
  let c1_i32_130 : BitVec 32 := 1#32
  let arg17 : BitVec 32 := Scf.iv c0_i32_128 c1_i32_130 k1_t7
  let v405 : Index := Scalar.indexCast arg17
  let c240_208 : Index := 240#32
  ![v405.toNat, 240]

def k1_chk112 (v407 : IVec S16 32) : Prop :=
  (∀ a x, ((![v407] : Fin 1 → IVec S16 32) a x).toNat < S32768.size a)
theorem k1_idx112_inb : ∀ (v407 : IVec S16 32) (k1_hw112 : k1_chk112 v407), ∀ a x, ((![v407] : Fin 1 → IVec S16 32) a x).toNat < S32768.size a := fun v407 k1_hw112 => k1_hw112
@[reducible] def k1_t8_loop : Scf.Loop 32 :=
  let c0_i32_138 : BitVec 32 := 0#32
  let c64_i32_139 : BitVec 32 := 64#32
  let v181 : BitVec 32 := Scalar.addi c0_i32_138 c64_i32_139
  let c1_i32_140 : BitVec 32 := 1#32
  ⟨c0_i32_138, v181, c1_i32_140⟩
def k1_off122 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v330 : Index := Scalar.indexCast arg17
  let c0_193 : Index := 0#32
  ![v330.toNat, 0]

def k1_chk113 (v332 : IVec S16 32) : Prop :=
  (∀ a x, ((![v332] : Fin 1 → IVec S16 32) a x).toNat < S32768.size a)
theorem k1_idx113_inb : ∀ (v332 : IVec S16 32) (k1_hw113 : k1_chk113 v332), ∀ a x, ((![v332] : Fin 1 → IVec S16 32) a x).toNat < S32768.size a := fun v332 k1_hw113 => k1_hw113
def k1_off123 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v335 : Index := Scalar.indexCast arg17
  let c16_194 : Index := 16#32
  ![v335.toNat, 16]

def k1_chk114 (v337 : IVec S16 32) : Prop :=
  (∀ a x, ((![v337] : Fin 1 → IVec S16 32) a x).toNat < S32768.size a)
theorem k1_idx114_inb : ∀ (v337 : IVec S16 32) (k1_hw114 : k1_chk114 v337), ∀ a x, ((![v337] : Fin 1 → IVec S16 32) a x).toNat < S32768.size a := fun v337 k1_hw114 => k1_hw114
def k1_off124 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v340 : Index := Scalar.indexCast arg17
  let c32_195 : Index := 32#32
  ![v340.toNat, 32]

def k1_chk115 (v342 : IVec S16 32) : Prop :=
  (∀ a x, ((![v342] : Fin 1 → IVec S16 32) a x).toNat < S32768.size a)
theorem k1_idx115_inb : ∀ (v342 : IVec S16 32) (k1_hw115 : k1_chk115 v342), ∀ a x, ((![v342] : Fin 1 → IVec S16 32) a x).toNat < S32768.size a := fun v342 k1_hw115 => k1_hw115
def k1_off125 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v345 : Index := Scalar.indexCast arg17
  let c48_196 : Index := 48#32
  ![v345.toNat, 48]

def k1_chk116 (v347 : IVec S16 32) : Prop :=
  (∀ a x, ((![v347] : Fin 1 → IVec S16 32) a x).toNat < S32768.size a)
theorem k1_idx116_inb : ∀ (v347 : IVec S16 32) (k1_hw116 : k1_chk116 v347), ∀ a x, ((![v347] : Fin 1 → IVec S16 32) a x).toNat < S32768.size a := fun v347 k1_hw116 => k1_hw116
def k1_off126 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v350 : Index := Scalar.indexCast arg17
  let c64_197 : Index := 64#32
  ![v350.toNat, 64]

def k1_chk117 (v352 : IVec S16 32) : Prop :=
  (∀ a x, ((![v352] : Fin 1 → IVec S16 32) a x).toNat < S32768.size a)
theorem k1_idx117_inb : ∀ (v352 : IVec S16 32) (k1_hw117 : k1_chk117 v352), ∀ a x, ((![v352] : Fin 1 → IVec S16 32) a x).toNat < S32768.size a := fun v352 k1_hw117 => k1_hw117
def k1_off127 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v355 : Index := Scalar.indexCast arg17
  let c80_198 : Index := 80#32
  ![v355.toNat, 80]

def k1_chk118 (v357 : IVec S16 32) : Prop :=
  (∀ a x, ((![v357] : Fin 1 → IVec S16 32) a x).toNat < S32768.size a)
theorem k1_idx118_inb : ∀ (v357 : IVec S16 32) (k1_hw118 : k1_chk118 v357), ∀ a x, ((![v357] : Fin 1 → IVec S16 32) a x).toNat < S32768.size a := fun v357 k1_hw118 => k1_hw118
def k1_off128 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v360 : Index := Scalar.indexCast arg17
  let c96_199 : Index := 96#32
  ![v360.toNat, 96]

def k1_chk119 (v362 : IVec S16 32) : Prop :=
  (∀ a x, ((![v362] : Fin 1 → IVec S16 32) a x).toNat < S32768.size a)
theorem k1_idx119_inb : ∀ (v362 : IVec S16 32) (k1_hw119 : k1_chk119 v362), ∀ a x, ((![v362] : Fin 1 → IVec S16 32) a x).toNat < S32768.size a := fun v362 k1_hw119 => k1_hw119
def k1_off129 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v365 : Index := Scalar.indexCast arg17
  let c112_200 : Index := 112#32
  ![v365.toNat, 112]

def k1_chk120 (v367 : IVec S16 32) : Prop :=
  (∀ a x, ((![v367] : Fin 1 → IVec S16 32) a x).toNat < S32768.size a)
theorem k1_idx120_inb : ∀ (v367 : IVec S16 32) (k1_hw120 : k1_chk120 v367), ∀ a x, ((![v367] : Fin 1 → IVec S16 32) a x).toNat < S32768.size a := fun v367 k1_hw120 => k1_hw120
def k1_off130 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v370 : Index := Scalar.indexCast arg17
  let c128_201 : Index := 128#32
  ![v370.toNat, 128]

def k1_chk121 (v372 : IVec S16 32) : Prop :=
  (∀ a x, ((![v372] : Fin 1 → IVec S16 32) a x).toNat < S32768.size a)
theorem k1_idx121_inb : ∀ (v372 : IVec S16 32) (k1_hw121 : k1_chk121 v372), ∀ a x, ((![v372] : Fin 1 → IVec S16 32) a x).toNat < S32768.size a := fun v372 k1_hw121 => k1_hw121
def k1_off131 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v375 : Index := Scalar.indexCast arg17
  let c144_202 : Index := 144#32
  ![v375.toNat, 144]

def k1_chk122 (v377 : IVec S16 32) : Prop :=
  (∀ a x, ((![v377] : Fin 1 → IVec S16 32) a x).toNat < S32768.size a)
theorem k1_idx122_inb : ∀ (v377 : IVec S16 32) (k1_hw122 : k1_chk122 v377), ∀ a x, ((![v377] : Fin 1 → IVec S16 32) a x).toNat < S32768.size a := fun v377 k1_hw122 => k1_hw122
def k1_off132 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v380 : Index := Scalar.indexCast arg17
  let c160_203 : Index := 160#32
  ![v380.toNat, 160]

def k1_chk123 (v382 : IVec S16 32) : Prop :=
  (∀ a x, ((![v382] : Fin 1 → IVec S16 32) a x).toNat < S32768.size a)
theorem k1_idx123_inb : ∀ (v382 : IVec S16 32) (k1_hw123 : k1_chk123 v382), ∀ a x, ((![v382] : Fin 1 → IVec S16 32) a x).toNat < S32768.size a := fun v382 k1_hw123 => k1_hw123
def k1_off133 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v385 : Index := Scalar.indexCast arg17
  let c176_204 : Index := 176#32
  ![v385.toNat, 176]

def k1_chk124 (v387 : IVec S16 32) : Prop :=
  (∀ a x, ((![v387] : Fin 1 → IVec S16 32) a x).toNat < S32768.size a)
theorem k1_idx124_inb : ∀ (v387 : IVec S16 32) (k1_hw124 : k1_chk124 v387), ∀ a x, ((![v387] : Fin 1 → IVec S16 32) a x).toNat < S32768.size a := fun v387 k1_hw124 => k1_hw124
def k1_off134 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v390 : Index := Scalar.indexCast arg17
  let c192_205 : Index := 192#32
  ![v390.toNat, 192]

def k1_chk125 (v392 : IVec S16 32) : Prop :=
  (∀ a x, ((![v392] : Fin 1 → IVec S16 32) a x).toNat < S32768.size a)
theorem k1_idx125_inb : ∀ (v392 : IVec S16 32) (k1_hw125 : k1_chk125 v392), ∀ a x, ((![v392] : Fin 1 → IVec S16 32) a x).toNat < S32768.size a := fun v392 k1_hw125 => k1_hw125
def k1_off135 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v395 : Index := Scalar.indexCast arg17
  let c208_206 : Index := 208#32
  ![v395.toNat, 208]

def k1_chk126 (v397 : IVec S16 32) : Prop :=
  (∀ a x, ((![v397] : Fin 1 → IVec S16 32) a x).toNat < S32768.size a)
theorem k1_idx126_inb : ∀ (v397 : IVec S16 32) (k1_hw126 : k1_chk126 v397), ∀ a x, ((![v397] : Fin 1 → IVec S16 32) a x).toNat < S32768.size a := fun v397 k1_hw126 => k1_hw126
def k1_off136 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v400 : Index := Scalar.indexCast arg17
  let c224_207 : Index := 224#32
  ![v400.toNat, 224]

def k1_chk127 (v402 : IVec S16 32) : Prop :=
  (∀ a x, ((![v402] : Fin 1 → IVec S16 32) a x).toNat < S32768.size a)
theorem k1_idx127_inb : ∀ (v402 : IVec S16 32) (k1_hw127 : k1_chk127 v402), ∀ a x, ((![v402] : Fin 1 → IVec S16 32) a x).toNat < S32768.size a := fun v402 k1_hw127 => k1_hw127
def k1_off137 (k1_t8 : Fin k1_t8_loop.trips) : Fin 2 → Nat :=
  let c0_i32_138 : BitVec 32 := 0#32
  let c1_i32_140 : BitVec 32 := 1#32
  let arg17 : BitVec 32 := Scf.iv c0_i32_138 c1_i32_140 k1_t8
  let v405 : Index := Scalar.indexCast arg17
  let c240_208 : Index := 240#32
  ![v405.toNat, 240]

def k1_chk128 (v407 : IVec S16 32) : Prop :=
  (∀ a x, ((![v407] : Fin 1 → IVec S16 32) a x).toNat < S32768.size a)
theorem k1_idx128_inb : ∀ (v407 : IVec S16 32) (k1_hw128 : k1_chk128 v407), ∀ a x, ((![v407] : Fin 1 → IVec S16 32) a x).toNat < S32768.size a := fun v407 k1_hw128 => k1_hw128

def k1_chk129 (v202 : IVec S16 32) : Prop :=
  (∀ a x, ((![v202] : Fin 1 → IVec S16 32) a x).toNat < S256.size a)
theorem k1_idx129_inb : ∀ (v202 : IVec S16 32) (k1_hw129 : k1_chk129 v202), ∀ a x, ((![v202] : Fin 1 → IVec S16 32) a x).toNat < S256.size a := fun v202 k1_hw129 => k1_hw129

def k1_chk130 (v209 : IVec S16 32) : Prop :=
  (∀ a x, ((![v209] : Fin 1 → IVec S16 32) a x).toNat < S256.size a)
theorem k1_idx130_inb : ∀ (v209 : IVec S16 32) (k1_hw130 : k1_chk130 v209), ∀ a x, ((![v209] : Fin 1 → IVec S16 32) a x).toNat < S256.size a := fun v209 k1_hw130 => k1_hw130

def k1_chk131 (v218 : IVec S16 32) : Prop :=
  (∀ a x, ((![v218] : Fin 1 → IVec S16 32) a x).toNat < S256.size a)
theorem k1_idx131_inb : ∀ (v218 : IVec S16 32) (k1_hw131 : k1_chk131 v218), ∀ a x, ((![v218] : Fin 1 → IVec S16 32) a x).toNat < S256.size a := fun v218 k1_hw131 => k1_hw131

def k1_chk132 (v225 : IVec S16 32) : Prop :=
  (∀ a x, ((![v225] : Fin 1 → IVec S16 32) a x).toNat < S256.size a)
theorem k1_idx132_inb : ∀ (v225 : IVec S16 32) (k1_hw132 : k1_chk132 v225), ∀ a x, ((![v225] : Fin 1 → IVec S16 32) a x).toNat < S256.size a := fun v225 k1_hw132 => k1_hw132

def k1_chk133 (v234 : IVec S16 32) : Prop :=
  (∀ a x, ((![v234] : Fin 1 → IVec S16 32) a x).toNat < S256.size a)
theorem k1_idx133_inb : ∀ (v234 : IVec S16 32) (k1_hw133 : k1_chk133 v234), ∀ a x, ((![v234] : Fin 1 → IVec S16 32) a x).toNat < S256.size a := fun v234 k1_hw133 => k1_hw133

def k1_chk134 (v241 : IVec S16 32) : Prop :=
  (∀ a x, ((![v241] : Fin 1 → IVec S16 32) a x).toNat < S256.size a)
theorem k1_idx134_inb : ∀ (v241 : IVec S16 32) (k1_hw134 : k1_chk134 v241), ∀ a x, ((![v241] : Fin 1 → IVec S16 32) a x).toNat < S256.size a := fun v241 k1_hw134 => k1_hw134

def k1_chk135 (v250 : IVec S16 32) : Prop :=
  (∀ a x, ((![v250] : Fin 1 → IVec S16 32) a x).toNat < S256.size a)
theorem k1_idx135_inb : ∀ (v250 : IVec S16 32) (k1_hw135 : k1_chk135 v250), ∀ a x, ((![v250] : Fin 1 → IVec S16 32) a x).toNat < S256.size a := fun v250 k1_hw135 => k1_hw135

def k1_chk136 (v257 : IVec S16 32) : Prop :=
  (∀ a x, ((![v257] : Fin 1 → IVec S16 32) a x).toNat < S256.size a)
theorem k1_idx136_inb : ∀ (v257 : IVec S16 32) (k1_hw136 : k1_chk136 v257), ∀ a x, ((![v257] : Fin 1 → IVec S16 32) a x).toNat < S256.size a := fun v257 k1_hw136 => k1_hw136

def k1_chk137 (v266 : IVec S16 32) : Prop :=
  (∀ a x, ((![v266] : Fin 1 → IVec S16 32) a x).toNat < S256.size a)
theorem k1_idx137_inb : ∀ (v266 : IVec S16 32) (k1_hw137 : k1_chk137 v266), ∀ a x, ((![v266] : Fin 1 → IVec S16 32) a x).toNat < S256.size a := fun v266 k1_hw137 => k1_hw137

def k1_chk138 (v273 : IVec S16 32) : Prop :=
  (∀ a x, ((![v273] : Fin 1 → IVec S16 32) a x).toNat < S256.size a)
theorem k1_idx138_inb : ∀ (v273 : IVec S16 32) (k1_hw138 : k1_chk138 v273), ∀ a x, ((![v273] : Fin 1 → IVec S16 32) a x).toNat < S256.size a := fun v273 k1_hw138 => k1_hw138

def k1_chk139 (v282 : IVec S16 32) : Prop :=
  (∀ a x, ((![v282] : Fin 1 → IVec S16 32) a x).toNat < S256.size a)
theorem k1_idx139_inb : ∀ (v282 : IVec S16 32) (k1_hw139 : k1_chk139 v282), ∀ a x, ((![v282] : Fin 1 → IVec S16 32) a x).toNat < S256.size a := fun v282 k1_hw139 => k1_hw139

def k1_chk140 (v289 : IVec S16 32) : Prop :=
  (∀ a x, ((![v289] : Fin 1 → IVec S16 32) a x).toNat < S256.size a)
theorem k1_idx140_inb : ∀ (v289 : IVec S16 32) (k1_hw140 : k1_chk140 v289), ∀ a x, ((![v289] : Fin 1 → IVec S16 32) a x).toNat < S256.size a := fun v289 k1_hw140 => k1_hw140

def k1_chk141 (v298 : IVec S16 32) : Prop :=
  (∀ a x, ((![v298] : Fin 1 → IVec S16 32) a x).toNat < S256.size a)
theorem k1_idx141_inb : ∀ (v298 : IVec S16 32) (k1_hw141 : k1_chk141 v298), ∀ a x, ((![v298] : Fin 1 → IVec S16 32) a x).toNat < S256.size a := fun v298 k1_hw141 => k1_hw141

def k1_chk142 (v305 : IVec S16 32) : Prop :=
  (∀ a x, ((![v305] : Fin 1 → IVec S16 32) a x).toNat < S256.size a)
theorem k1_idx142_inb : ∀ (v305 : IVec S16 32) (k1_hw142 : k1_chk142 v305), ∀ a x, ((![v305] : Fin 1 → IVec S16 32) a x).toNat < S256.size a := fun v305 k1_hw142 => k1_hw142

def k1_chk143 (v314 : IVec S16 32) : Prop :=
  (∀ a x, ((![v314] : Fin 1 → IVec S16 32) a x).toNat < S256.size a)
theorem k1_idx143_inb : ∀ (v314 : IVec S16 32) (k1_hw143 : k1_chk143 v314), ∀ a x, ((![v314] : Fin 1 → IVec S16 32) a x).toNat < S256.size a := fun v314 k1_hw143 => k1_hw143

def k1_chk144 (v321 : IVec S16 32) : Prop :=
  (∀ a x, ((![v321] : Fin 1 → IVec S16 32) a x).toNat < S256.size a)
theorem k1_idx144_inb : ∀ (v321 : IVec S16 32) (k1_hw144 : k1_chk144 v321), ∀ a x, ((![v321] : Fin 1 → IVec S16 32) a x).toNat < S256.size a := fun v321 k1_hw144 => k1_hw144
def k1_off138 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x4096 : Shape := ⟨2, ![1, 4096]⟩
abbrev S2x256x1x8 : Shape := ⟨4, ![2, 256, 1, 8]⟩
abbrev S512x4096x2 : Shape := ⟨3, ![512, 4096, 2]⟩
abbrev S4096x1x1x1 : Shape := ⟨4, ![4096, 1, 1, 1]⟩
abbrev S512x8 : Shape := ⟨2, ![512, 8]⟩
abbrev S8x512 : Shape := ⟨2, ![8, 512]⟩
abbrev S512x512 : Shape := ⟨2, ![512, 512]⟩
abbrev S512x2x256 : Shape := ⟨3, ![512, 2, 256]⟩
abbrev S512x2x4096 : Shape := ⟨3, ![512, 2, 4096]⟩
abbrev S_ : Shape := ⟨0, ![]⟩
abbrev S512x2x4096x1 : Shape := ⟨4, ![512, 2, 4096, 1]⟩
abbrev S1 : Shape := ⟨1, ![1]⟩
abbrev S1x1x1x1 : Shape := ⟨4, ![1, 1, 1, 1]⟩
abbrev S4096 : Shape := ⟨1, ![4096]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S2x256x1x8, .f32⟩
  | .hbm, ⟨2, _⟩ => ⟨S512x4096x2, .i32⟩
  | .hbm, ⟨3, _⟩ => ⟨S4096x1x1x1, .f32⟩
  | .hbm, ⟨4, _⟩ => ⟨S512x8, .f32⟩
  | .hbm, ⟨5, _⟩ => ⟨S512x8, .f32⟩
  | .hbm, ⟨6, _⟩ => ⟨S8x512, .f32⟩
  | .hbm, ⟨7, _⟩ => ⟨S512x512, .f32⟩
  | .hbm, ⟨8, _⟩ => ⟨S512x2x256, .f32⟩
  | .hbm, ⟨9, _⟩ => ⟨S512x2x4096, .i32⟩
  | .hbm, ⟨10, _⟩ => ⟨S_, .i32⟩
  | .hbm, ⟨11, _⟩ => ⟨S512x2x4096, .i32⟩
  | .hbm, ⟨12, _⟩ => ⟨S512x2x4096, .i1⟩
  | .hbm, ⟨13, _⟩ => ⟨S_, .i32⟩
  | .hbm, ⟨14, _⟩ => ⟨S512x2x4096, .i32⟩
  | .hbm, ⟨15, _⟩ => ⟨S512x2x4096, .i32⟩
  | .hbm, ⟨16, _⟩ => ⟨S512x2x4096, .i32⟩
  | .hbm, ⟨17, _⟩ => ⟨S512x2x4096x1, .i32⟩
  | .hbm, ⟨18, _⟩ => ⟨S1, .i32⟩
  | .hbm, ⟨19, _⟩ => ⟨S_, .i32⟩
  | .hbm, ⟨20, _⟩ => ⟨S512x2x4096x1, .i32⟩
  | .hbm, ⟨21, _⟩ => ⟨S512x2x4096x1, .i1⟩
  | .hbm, ⟨22, _⟩ => ⟨S1x1x1x1, .i32⟩
  | .hbm, ⟨23, _⟩ => ⟨S512x2x4096x1, .i32⟩
  | .hbm, ⟨24, _⟩ => ⟨S512x2x4096x1, .i1⟩
  | .hbm, ⟨25, _⟩ => ⟨S512x2x4096x1, .i1⟩
  | .hbm, ⟨26, _⟩ => ⟨S_, .i1⟩
  | .hbm, ⟨27, _⟩ => ⟨S512x2x4096, .i1⟩
  | .hbm, ⟨28, _⟩ => ⟨S512x2x4096, .f32⟩
  | .hbm, ⟨29, _⟩ => ⟨S_, .f32⟩
  | .hbm, ⟨30, _⟩ => ⟨S512x2x4096, .f32⟩
  | .hbm, ⟨31, _⟩ => ⟨S512x2x4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Codes.lean ====
/-
  What the precondition says of the codes: every one of them, read as a number, is below 256.
-/
module

public import proofs.«01_k».proof.Pre_codes_in_range
public import proofs.«01_k».proof.Proof.Gen.Pre_codes_in_range
public import Idealize.ShloMosaic.Lib.ReduceAll

@[expose] public section

namespace Cert.Codes

open Idealize.ShloMosaic Cert.Pre_codes_in_range

/-- A word at least 0 and below 256 as a signed number is below 256 as a number. -/
theorem word_lt (v : BitVec 32) (e : IntOp.andi (IntOp.cmpi .sge v 0#32) (IntOp.cmpi .slt v 256#32) = 1#1) : v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun d => d.elim0⟩

/-- The precondition's array of one flag being 1, every code is below 256. -/
theorem codes_lt {F : FTy → Type} [FloatOps F] (x : FVec F S1x4096 .f32) (b : FVec F S2x256x1x8 .f32) (k : IVec S512x4096x2 32)
    (s : FVec F S4096x1x1x1 .f32) (h : Cert.Pre_codes_in_range.fn x b k s = fun _ => 1#1) (i : S512x4096x2.Idx) : (k i).toNat < 256 := by
  have e := congrFun h (fun d => d.elim0)
  have e' := Host.reduce_andi_all _ _ _ _ _ e i
  exact word_lt _ e'

end Cert.Codes
-- ==== Proof.ITrip.lean ====
module

public import proofs.«01_k».proof.Proof.Gen.KernelIdeal.Skeleton
public import Idealize.ShloMosaic.Lib.Pipeline.Kit
public import Idealize.ShloMosaic.Lib.Tactic
public import Idealize.ShloMosaic.Lib.SparseCore.Quiescent
public import Idealize.ShloMosaic.Lib.SparseCore.Ops

@[expose] public section

noncomputable section

namespace Cert.KernelIdeal.Hand

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One vector of sixteen lanes of floats. -/
abbrev V16 (F : FTy → Type) : Type := FVec F S16 .f32

/-- The sixteen accumulators that a loop of gathers carries. -/
abbrev Acc (F : FTy → Type) : Type :=
  V16 F × V16 F × V16 F × V16 F × V16 F × V16 F × V16 F × V16 F × V16 F × V16 F × V16 F × V16 F × V16 F × V16 F × V16 F × V16 F

/-- The programs of the vector subcore at grid position `i`. -/
abbrev TProg (F : FTy → Type) (i : grid1.Coords) (α : Type) : Type _ :=
  Prog (TpuEff nD τ sig (Elt F) Λ₀ (.scVector ((i 0).castLE hcore1) ((i 1).castLE hsub1))) α

/-- The offsets of the sixteen codes that trip `t` reads from column `n` on. -/
def rowOff (t : Fin k1_t1_loop.trips) (n : Nat) : Fin 2 → Nat :=
  ![(Scalar.indexCast (Scf.iv 0#32 1#32 t)).toNat, n]

/-- The word that trip `t` adds to every code: the lane's half of the table row, and the row. -/
def baseOf (v38 : IVec S16 32) (t : Fin k1_t1_loop.trips) : IVec S16 32 :=
  addi v38 (broadcast S16 (Scalar.muli (Scf.iv 0#32 1#32 t) 512#32))

/-- Sixteen codes are read at `off`, the base is added, and the table is read at the sums. -/
def gath (i : grid1.Coords) (lutb : Memref sig .scVector .vmem S32768 .f32) (cod : Memref sig .scVector .vmem S64x256 .i32)
    (base : IVec S16 32) (off : Fin 2 → Nat) (hoff : ∀ a, off a + S1x16.size a ≤ S64x256.size a) : TProg F i (V16 F) := do
  let ld : Vec F S1x16 .i32 ← Prog.lift (.load cod (Rect.unit (s := S64x256) off S1x16.size hoff).toLoadRect (View.loadsAt_vmem h_S1x16))
  have h : k1_chk1 (addi (shapeCast S16 ld shapeCasts_S1x16_S16) base) :=
    (← Prog.lift (TpuEff.assume (k1_chk1 (addi (shapeCast S16 ld shapeCasts_S1x16_S16) base)) (k1_chk1.dec _))).down
  (SparseCore.vectorLoadIdx lutb ![addi (shapeCast S16 ld shapeCasts_S1x16_S16) base] (k1_idx1_inb _ h) (View.loads_vmem h_S32768) : TProg F i (Vec F S16 .f32))

/-- One trip: sixteen gathers, each added to its accumulator. -/
def trip (i : grid1.Coords) (lutb : Memref sig .scVector .vmem S32768 .f32) (cod : Memref sig .scVector .vmem S64x256 .i32)
    (v38 : IVec S16 32) (t : Fin k1_t1_loop.trips) (a : Acc F) : TProg F i (Acc F) := do
  let g0 ← gath (F := F) i lutb cod (baseOf v38 t) (rowOff t 0) (k1_off4_inb t)
  let g1 ← gath (F := F) i lutb cod (baseOf v38 t) (rowOff t 16) (k1_off5_inb t)
  let g2 ← gath (F := F) i lutb cod (baseOf v38 t) (rowOff t 32) (k1_off6_inb t)
  let g3 ← gath (F := F) i lutb cod (baseOf v38 t) (rowOff t 48) (k1_off7_inb t)
  let g4 ← gath (F := F) i lutb cod (baseOf v38 t) (rowOff t 64) (k1_off8_inb t)
  let g5 ← gath (F := F) i lutb cod (baseOf v38 t) (rowOff t 80) (k1_off9_inb t)
  let g6 ← gath (F := F) i lutb cod (baseOf v38 t) (rowOff t 96) (k1_off10_inb t)
  let g7 ← gath (F := F) i lutb cod (baseOf v38 t) (rowOff t 112) (k1_off11_inb t)
  let g8 ← gath (F := F) i lutb cod (baseOf v38 t) (rowOff t 128) (k1_off12_inb t)
  let g9 ← gath (F := F) i lutb cod (baseOf v38 t) (rowOff t 144) (k1_off13_inb t)
  let g10 ← gath (F := F) i lutb cod (baseOf v38 t) (rowOff t 160) (k1_off14_inb t)
  let g11 ← gath (F := F) i lutb cod (baseOf v38 t) (rowOff t 176) (k1_off15_inb t)
  let g12 ← gath (F := F) i lutb cod (baseOf v38 t) (rowOff t 192) (k1_off16_inb t)
  let g13 ← gath (F := F) i lutb cod (baseOf v38 t) (rowOff t 208) (k1_off17_inb t)
  let g14 ← gath (F := F) i lutb cod (baseOf v38 t) (rowOff t 224) (k1_off18_inb t)
  let g15 ← gath (F := F) i lutb cod (baseOf v38 t) (rowOff t 240) (k1_off19_inb t)
  let (a0, a1, a2, a3, a4, a5, a6, a7, a8, a9, a10, a11, a12, a13, a14, a15) := a
  pure (addf a0 g0, addf a1 g1, addf a2 g2, addf a3 g3, addf a4 g4, addf a5 g5, addf a6 g6, addf a7 g7,
    addf a8 g8, addf a9 g9, addf a10 g10, addf a11 g11, addf a12 g12, addf a13 g13, addf a14 g14, addf a15 g15)

section Bodies
variable (i : grid1.Coords) (arg2 : Memref sig .scVector .hbm S8x32768 .f32) (harg2 : arg2.IsWhole) (arg3 : Memref sig .scVector .hbm S8x64x8192 .i32) (harg3 : arg3.IsWhole) (arg4 : Memref sig .scVector .hbm S4096 .f32) (harg4 : arg4.IsWhole) (arg5 : Memref sig .scVector .hbm S4096 .f32) (harg5 : arg5.IsWhole) (arg6 : Memref sig .scVector .vmem S32768 .f32) (harg6 : arg6.IsWhole) (arg7 : Memref sig .scVector .vmem S32768 .f32) (harg7 : arg7.IsWhole) (arg8 : Memref sig .scVector .vmem S64x256 .i32) (harg8 : arg8.IsWhole) (arg9 : Memref sig .scVector .vmem S64x256 .i32) (harg9 : arg9.IsWhole) (arg10 : Memref sig .scVector .vmem S256 .f32) (harg10 : arg10.IsWhole) (arg11 : Memref sig .scVector .vmem S128 .f32) (harg11 : arg11.IsWhole) (arg12 : Memref sig .scVector .vmem S128 .f32) (harg12 : arg12.IsWhole) (arg13 : DmaSems sig S_) (arg14 : DmaSems sig S_) (arg15 : DmaSems sig S_) (arg16 : DmaSems sig S_) (v327_r0 : DmaSems sig S_) (v327_r1 : DmaSems sig S_) (v38 : IVec S16 32)

set_option maxRecDepth 65536 in
/-- A trip of loop 1 is the trip over its two buffers. -/
theorem k1_t1_body_eq (x0 x1 x2 x3 x4 x5 x6 x7 x8 x9 x10 x11 x12 x13 x14 x15 : V16 F) :
    k1_t1_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg6 arg8 v38 := rfl

set_option maxRecDepth 65536 in
/-- A trip of loop 2 is the trip over its two buffers. -/
theorem k1_t2_body_eq (x0 x1 x2 x3 x4 x5 x6 x7 x8 x9 x10 x11 x12 x13 x14 x15 : V16 F) :
    k1_t2_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg7 arg9 v38 := rfl

set_option maxRecDepth 65536 in
/-- A trip of loop 3 is the trip over its two buffers. -/
theorem k1_t3_body_eq (x0 x1 x2 x3 x4 x5 x6 x7 x8 x9 x10 x11 x12 x13 x14 x15 : V16 F) :
    k1_t3_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg6 arg8 v38 := rfl

set_option maxRecDepth 65536 in
/-- A trip of loop 4 is the trip over its two buffers. -/
theorem k1_t4_body_eq (x0 x1 x2 x3 x4 x5 x6 x7 x8 x9 x10 x11 x12 x13 x14 x15 : V16 F) :
    k1_t4_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg7 arg9 v38 := rfl

set_option maxRecDepth 65536 in
/-- A trip of loop 5 is the trip over its two buffers. -/
theorem k1_t5_body_eq (x0 x1 x2 x3 x4 x5 x6 x7 x8 x9 x10 x11 x12 x13 x14 x15 : V16 F) :
    k1_t5_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg6 arg8 v38 := rfl

set_option maxRecDepth 65536 in
/-- A trip of loop 6 is the trip over its two buffers. -/
theorem k1_t6_body_eq (x0 x1 x2 x3 x4 x5 x6 x7 x8 x9 x10 x11 x12 x13 x14 x15 : V16 F) :
    k1_t6_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg7 arg9 v38 := rfl

set_option maxRecDepth 65536 in
/-- A trip of loop 7 is the trip over its two buffers. -/
theorem k1_t7_body_eq (x0 x1 x2 x3 x4 x5 x6 x7 x8 x9 x10 x11 x12 x13 x14 x15 : V16 F) :
    k1_t7_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg6 arg8 v38 := rfl

set_option maxRecDepth 65536 in
/-- A trip of loop 8 is the trip over its two buffers. -/
theorem k1_t8_body_eq (x0 x1 x2 x3 x4 x5 x6 x7 x8 x9 x10 x11 x12 x13 x14 x15 : V16 F) :
    k1_t8_body (F := F) i arg2 harg2 arg3 harg3 arg4 harg4 arg5 harg5 arg6 harg6 arg7 harg7 arg8 harg8 arg9 harg9 arg10 harg10 arg11 harg11 arg12 harg12 arg13 arg14 arg15 arg16 v327_r0 v327_r1 v38
      x0 x1 x2 x3 x4 x5 x6 x7 x8 x9 x10 x11 x12 x13 x14 x15 = trip i arg7 arg9 v38 := rfl

end Bodies

end Cert.KernelIdeal.Hand

end
-- ==== Proof.IBase.lean ====
module

public import proofs.«01_k».proof.Proof.ITrip

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

/-- The handshakes' rounds. -/
abbrev UH : Type := URounds (GSem nD τ sig) ℕ
/-- The handshakes' rounds beside the staging rounds of the TensorCore region and the counters of the transfers. -/
abbrev UU : Type := UH × (UR sig nD τ × Counters)

variable {F : FTy → Type}

local notation "𝕄" => MT nD τ sig (HIx 1) (Elt F) ℕ UU ℕ

variable [FloatOps F]

/-- The vector subcore at grid position `i` of device `d`. -/
abbrev thr (d : Dev nD) (i : grid1.Coords) : Thread nD τ := V d ((i 0).castLE hcore1) ((i 1).castLE hsub1)

/-- The counters' embedding. -/
abbrev EC : UEmb Counters (MT nD τ sig (HIx 1) (Elt F) ℕ UU ℕ) := countersEmb

section Has
variable (c : Thread nD τ) {sp : Space} {s : Shape} {e : EltTy}

/-- The thread holds the elements of the memref `m` at the share `q`, and `m` reads as `L`. -/
def has (q : PosShare TreeShare) (m : Memref sig c.2.kind sp s e) (L : s.Idx → Elt F e) : sProp 𝕄 :=
  iprop(∃ f, ⌜m.view.read (Elt F) f = L⌝ ∗ (m.view.loc c ↦[m.view.set]{q} f))

/-- The thread holds the elements of the memref `m` outright, whatever they are. -/
def hasAny (m : Memref sig c.2.kind sp s e) : sProp 𝕄 :=
  iprop(∃ f, (m.view.loc c ↦[m.view.set]{fullShare} f))

instance has_storable (q : PosShare TreeShare) (m : Memref sig c.2.kind sp s e) (L : s.Idx → Elt F e) :
    BI.Storable (upEmb : UEmb _ 𝕄) (has c q m L) := by unfold has; infer_instance
instance hasAny_storable (m : Memref sig c.2.kind sp s e) :
    BI.Storable (upEmb : UEmb _ 𝕄) (hasAny (F := F) c m) := by unfold hasAny; infer_instance

/-- What is held at known contents is held at some. -/
theorem hasAny_of_has (m : Memref sig c.2.kind sp s e) (L : s.Idx → Elt F e) : has c fullShare m L ⊢ hasAny (F := F) c m := by
  unfold has hasAny
  iintro ⟨%f, -, H⟩
  iexists f; iexact H

/-- The thread holds the elements of the memref `m` outright, and what `m` reads satisfies `P`. -/
def hasP (m : Memref sig c.2.kind sp s e) (P : (s.Idx → Elt F e) → Prop) : sProp 𝕄 :=
  iprop(∃ L, ⌜P L⌝ ∗ has c fullShare m L)

/-- What is held at some contents satisfies the predicate that is always true. -/
theorem hasP_of_any (m : Memref sig c.2.kind sp s e) (P : (s.Idx → Elt F e) → Prop) (hP : ∀ L, P L) :
    hasAny (F := F) c m ⊢ hasP c m P := by
  unfold hasP has hasAny
  iintro ⟨%f, H⟩
  iexists (m.view.read (Elt F) f); isplitr; · ipureintro; exact hP _
  iexists f; isplitr; · ipureintro; rfl
  iexact H

/-- A predicate that fixes the contents turns into contents. -/
theorem has_of_hasP (m : Memref sig c.2.kind sp s e) (P : (s.Idx → Elt F e) → Prop) (L : s.Idx → Elt F e) (hP : ∀ L', P L' → L' = L) :
    hasP c m P ⊢ has c fullShare m L := by
  unfold hasP
  iintro ⟨%L', %h, H⟩
  rw [hP L' h]; iexact H

end Has

/-- What the thread owes, its waits recorded beyond `W` being at no launch index. -/
def owesW (c : Thread nD τ) (O : CellTallies nD τ sig (HIx 1)) (W : Waits sig (HIx 1)) : sProp 𝕄 :=
  iprop(∃ W', ⌜∀ p ∈ W', p ∈ W ∨ p.2 = none⌝ ∗ owes c O W')

section Rules
variable {Λ : Labels} {defs : Defs nD τ sig (Elt F) Λ} (𝒱 : Variants) (c : Thread nD τ) (bd : Option 𝒱.V)
variable {α : Type} {sp sp' : Space} {s : Shape} {e : EltTy} {Q : α → sProp (MT nD τ sig (HIx 1) (Elt F) ℕ UU ℕ)}

/-- A local transfer issued on a cell at zero: its flight delivers the destination at the source's contents, and the source. -/
theorem wp_start {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ c.2) α} {q : PosShare TreeShare} {L : s.Idx → Elt F e}
    (hN : 0 < s.numel) :
    iprop(has c q src L ∗ hasAny (F := F) c dst ∗ semVal (c, .dma sem) 0)
      ⊢ iprop((Flight EC c (.dma sem) (none : HIx 1) dst.view.dmaCredit iprop(has c fullShare dst L ∗ has c q src L)
              -∗ wp frame (wpE defs 𝒱 c bd) Set.univ (k ⟨⟩) Q)
          -∗ wp frame (wpE defs 𝒱 c bd) Set.univ (Prog.lift (.enqueueDma src (.here dst) (.dma sem) hsrc hdst hsem) >>= k) Q) := by
  unfold has hasAny
  iintro ⟨⟨%fs, %hL, Hs⟩, ⟨%fd, Hd⟩, Hv⟩ Hk
  subst hL
  iapply (wp_dmaLocal EC 𝒱 c bd (via := .same) (none : HIx 1) dst.view.dmaCredit rfl (View.dmaCredit_pos _ hN) (Finset.Subset.refl _)) $$ [Hs Hd Hv]
  · isplitl [Hs]; · iexact Hs
    isplitl [Hd]; · iexact Hd
    iexact Hv
  iintro HF
  iapply Hk
  iapply (Flight_mono EC c ?_) $$ HF
  iintro ⟨Hd, Hs⟩
  isplitl [Hd]
  · iexists (dst.view.write (Elt F) fd (src.view.read (Elt F) fs) Finset.univ); isplitr; · ipureintro; exact View.read_write_univ _ _
    iexact Hd
  · iexists _; isplitr; · ipureintro; rfl
    iexact Hs

/-- The wait for a local transfer: the delivery, the cell at zero again. -/
theorem wp_await {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {D : sProp 𝕄}
    {O : CellTallies nD τ sig (HIx 1)} {W : Waits sig (HIx 1)} :
    iprop(Flight EC c (.dma sem) (none : HIx 1) dstw.view.dmaCredit D ∗ owesW (F := F) c O W ∗ MayWaits c (none : HIx 1) O)
      ⊢ iprop((iprop(D ∗ semVal (c, .dma sem) 0 ∗ owesW (F := F) c O W) -∗ wp frame (wpE defs 𝒱 c bd) Set.univ (k ⟨⟩) Q)
          -∗ wp frame (wpE defs 𝒱 c bd) Set.univ (Prog.lift (.waitDma2 sem srcw dstw hsrc hdst) >>= k) Q) := by
  unfold owesW
  iintro ⟨HF, ⟨%W', %hW, HO⟩, Hmw⟩ Hk
  iapply (wp_waitLocalO EC 𝒱 c bd (none : HIx 1) rfl) $$ [HF HO Hmw]
  · isplitl [HF]; · iexact HF
    isplitl [HO]; · iexact HO
    iapply (MayWaits.elim (.dma sem)); iexact Hmw
  iintro ⟨HD, Hv, HO⟩
  iapply Hk
  isplitl [HD]; · iexact HD
  isplitl [Hv]; · iexact Hv
  iexists (insert (SemLoc.dma sem, (none : HIx 1)) W'); isplitr
  · ipureintro
    intro p hp
    rcases Finset.mem_insert.mp hp with h | hp
    · exact .inr (congrArg Prod.snd h)
    · exact hW p hp
  · iexact HO

/-- A load through a rectangle reads the held contents there. -/
theorem wp_loadR {cs : CoreSpace} {m : Memref sig c.2.kind cs s e} {r : Rect s} {hl : m.view.LoadsAt r.toLoadRect}
    {k : (r.shape.Idx → Elt F e) → Prog (TpuEff nD τ sig (Elt F) Λ c.2) α} {q : PosShare TreeShare} {L : s.Idx → Elt F e} :
    has c q m L
      ⊢ iprop((has c q m L -∗ wp frame (wpE defs 𝒱 c bd) Set.univ (k (fun x => L (r.emb x))) Q)
        -∗ wp frame (wpE defs 𝒱 c bd) Set.univ (Prog.lift (.load m r.toLoadRect hl) >>= k) Q) := by
  unfold has
  iintro ⟨%f, %hL, H⟩ Hk
  subst hL
  iapply (wp_load_rect 𝒱 c bd Set.univ (m := m) (r := r) (S := m.view.set) (q := q) (f := f) (View.set_slice_subset _ _)) $$ H
  iintro H
  iapply Hk
  iexists f; isplitr; · ipureintro; rfl
  iexact H

/-- A gather from a whole table reads the held contents at the indices. -/
theorem wp_gatherIdx {t : Shape} {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {L : s.Idx → Elt F e} :
    has c q base L
      ⊢ iprop((has c q base L -∗ wp frame (wpE defs 𝒱 c bd) Set.univ (k (loadIdx L idxs h)) Q)
        -∗ wp frame (wpE defs 𝒱 c bd) Set.univ (SparseCore.vectorLoadIdx base idxs h hl >>= k) Q) := by
  unfold has
  iintro ⟨%f, %hL, H⟩ Hk
  have hr : (base.access (.whole s)).read (Elt F) f = L := by
    subst hL; funext x
    show base.view.read (Elt F) f ((Rect.whole s).emb x) = _
    rw [Rect.emb_whole_apply]
  iapply (SparseCore.wp_vectorLoadIdx 𝒱 c bd Set.univ (base := base) (S := base.view.set) (q := q) (f := f) (View.set_slice_subset _ _)) $$ H
  rw [hr]
  iintro H
  iapply Hk
  iexists f; isplitr; · ipureintro; exact hL
  iexact H

/-- A load whose result is not used, of contents satisfying `P`. -/
theorem wp_loadP {cs : CoreSpace} {m : Memref sig c.2.kind cs s e} {r : Rect s} {hl : m.view.LoadsAt r.toLoadRect}
    {k : (r.shape.Idx → Elt F e) → Prog (TpuEff nD τ sig (Elt F) Λ c.2) α} {P : (s.Idx → Elt F e) → Prop} :
    hasP c m P
      ⊢ iprop((∀ x, hasP c m P -∗ wp frame (wpE defs 𝒱 c bd) Set.univ (k x) Q)
        -∗ wp frame (wpE defs 𝒱 c bd) Set.univ (Prog.lift (.load m r.toLoadRect hl) >>= k) Q) := by
  unfold hasP
  iintro ⟨%L, %hP, H⟩ Hk
  iapply (wp_loadR 𝒱 c bd) $$ H
  iintro H
  iapply Hk
  iexists L; isplitr; · ipureintro; exact hP
  iexact H

/-- A store through a rectangle: the contents there are the stored ones, elsewhere they stay. -/
theorem wp_storeP {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {P P' : (s.Idx → Elt F e) → Prop}
    (hPP : ∀ L L' : s.Idx → Elt F e, P L → (∀ x, L' (r.emb x) = w x) → (∀ y, y ∉ r.set → L' y = L y) → P' L') :
    hasP c m P
      ⊢ iprop((hasP c m P' -∗ wp frame (wpE defs 𝒱 c bd) Set.univ (k ⟨⟩) Q)
        -∗ wp frame (wpE defs 𝒱 c bd) Set.univ (Prog.lift (.store m r w Finset.univ hx hm) >>= k) Q) := by
  unfold hasP has
  iintro ⟨%L, %hP, ⟨%f, %hL, H⟩⟩ Hk
  subst hL
  iapply (wp_store 𝒱 c bd Set.univ (m := m) (r := r) (S := m.view.set) (f := f) ((View.setOn_subset_set _ _).trans (View.set_slice_subset _ _))) $$ H
  iintro H
  iapply Hk
  iexists (m.view.read (Elt F) ((m.access r).write (Elt F) f w Finset.univ))
  isplitr
  · ipureintro
    exact hPP _ _ hP (fun x => View.read_slice_write_emb r f w (Finset.mem_univ x))
      (fun y hy => View.read_slice_write_of_not_mem r f w _ (by rwa [Rect.map_emb_univ]))
  · iexists _; isplitr; · ipureintro; rfl
    iexact H

end Rules

end Cert.KernelIdeal.Hand
-- ==== Proof.ILoop.lean ====
module

public import proofs.«01_k».proof.Proof.IBase
public import Idealize.ShloMosaic.Lib.Pipeline.Value

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The element of a table row at position `k` (taken below the row's length). -/
def at1 (L : S32768.Idx → Elt F .f32) (k : Nat) : Elt F .f32 :=
  L fun a => ⟨k % S32768.size a, Nat.mod_lt _ (by fin_cases a; decide)⟩

/-- The code at row `j` and column `n` (each taken below its bound). -/
def at2 (C : S64x256.Idx → Elt F .i32) (j n : Nat) : BitVec 32 :=
  C fun a => ⟨(![j, n] : Fin 2 → Nat) a % S64x256.size a, Nat.mod_lt _ (by fin_cases a <;> decide)⟩

/-- The position in the table row that lane `l` reads at row `j` of the codes. -/
def posOf (C : S64x256.Idx → Elt F .i32) (v38 : IVec S16 32) (j n : Nat) (l : S16.Idx) : Nat :=
  (at2 (F := F) C j (n + (l 0).val) + (v38 l + BitVec.ofNat 32 j * 512#32)).toNat

/-- What sixteen lanes gather at row `j` of the codes, from column `n` on. -/
def gathVal (L : S32768.Idx → Elt F .f32) (C : S64x256.Idx → Elt F .i32) (v38 : IVec S16 32) (j n : Nat) : V16 F :=
  fun l => at1 L (posOf (F := F) C v38 j n l)

/-- One slot's accumulator after `k` rows. -/
def foldVal (L : S32768.Idx → Elt F .f32) (C : S64x256.Idx → Elt F .i32) (v38 : IVec S16 32) (n : Nat) : Nat → V16 F → V16 F
  | 0, a => a
  | k + 1, a => addf (foldVal L C v38 n k a) (gathVal L C v38 k n)

/-- The sixteen accumulators, from their family. -/
def accOf (g : Fin 16 → V16 F) : Acc F :=
  (g 0, g 1, g 2, g 3, g 4, g 5, g 6, g 7, g 8, g 9, g 10, g 11, g 12, g 13, g 14, g 15)

/-- The codes are below 256. -/
def CodesOK (C : S64x256.Idx → Elt F .i32) : Prop := ∀ x, (C x : BitVec 32).toNat < 256

/-- The lane's base is at most 256. -/
def BaseOK (v38 : IVec S16 32) : Prop := ∀ l, (v38 l).toNat ≤ 256

theorem posOf_lt {C : S64x256.Idx → Elt F .i32} (hC : CodesOK C) {v38 : IVec S16 32} (hv : BaseOK v38) {j : Nat} (hj : j < 64) (n : Nat) (l : S16.Idx) :
    posOf (F := F) C v38 j n l < 32768 := by
  have h1 : (at2 (F := F) C j (n + (l 0).val)).toNat < 256 := hC _
  have h2 := hv l
  unfold posOf
  simp only [BitVec.toNat_add, BitVec.toNat_mul, BitVec.toNat_ofNat]
  omega

theorem trips64 : k1_t1_loop.trips = 64 := by decide

theorem trip_lt (t : Fin k1_t1_loop.trips) : t.val < 64 := trips64 ▸ t.isLt

theorem iv_toNat (t : Fin k1_t1_loop.trips) : (Scalar.indexCast (Scf.iv 0#32 1#32 t)).toNat = t.val := by
  have := trip_lt t
  show (BitVec.toNat _) = _
  simp [Scf.iv, Scalar.indexCast]
  omega

/-- What the indices of one gather are, lane by lane. -/
theorem idx_eq (C : S64x256.Idx → Elt F .i32) (v38 : IVec S16 32) (t : Fin k1_t1_loop.trips) (n : Nat)
    (hoff : ∀ a, rowOff t n a + S1x16.size a ≤ S64x256.size a) (l : S16.Idx) :
    (addi (shapeCast S16 (fun x => C ((Rect.unit (s := S64x256) (rowOff t n) S1x16.size hoff).emb x) : Vec F S1x16 .i32) shapeCasts_S1x16_S16) (baseOf v38 t) l).toNat
      = posOf (F := F) C v38 t.val n l := by
  unfold posOf
  have hs : shapeCast S16 (fun x => C ((Rect.unit (s := S64x256) (rowOff t n) S1x16.size hoff).emb x) : Vec F S1x16 .i32) shapeCasts_S1x16_S16 l
      = at2 (F := F) C t.val (n + (l 0).val) := by
    refine (shapeCast_dropUnit_apply (n := 1) ![16] _ _ l).trans ?_
    unfold at2
    congr 1
    funext a
    have h0 := hoff 0
    have h1 := hoff 1
    have htl := trip_lt t
    have := iv_toNat t
    have hl : (l 0).val < 16 := (l 0).isLt
    apply Fin.ext
    fin_cases a
    · show rowOff t n 0 + 1 * 0 = t.val % 64
      rw [show rowOff t n 0 = (Scalar.indexCast (Scf.iv 0#32 1#32 t)).toNat from rfl, this]; omega
    · show rowOff t n 1 + 1 * (l 0).val = (n + (l 0).val) % 256
      have h2 : rowOff t n 1 = n := rfl
      have h3 : S1x16.size 1 = 16 := rfl
      have h4 : S64x256.size 1 = 256 := rfl
      omega
  show BitVec.toNat (shapeCast S16 _ shapeCasts_S1x16_S16 l + (v38 l + (Scf.iv 0#32 1#32 t.val) * 512#32)) = _
  rw [hs]
  simp [Scf.iv]

section Rules
variable {defs : Defs nD τ sig (Elt F) Λ₀} (𝒱 : Variants) (d : Dev nD) (i : grid1.Coords) (bd : Option 𝒱.V)
variable {α : Type} {Q : α → sProp (MT nD τ sig (HIx 1) (Elt F) ℕ UU ℕ)}
variable {lutb : Memref sig .scVector .vmem S32768 .f32} {cod : Memref sig .scVector .vmem S64x256 .i32} {v38 : IVec S16 32}
  {L : S32768.Idx → Elt F .f32} {C : S64x256.Idx → Elt F .i32}

/-- One gather: the table row and the codes stay, the sixteen lanes hold what they read. -/
theorem wp_gath (hC : CodesOK C) (hv : BaseOK v38) (t : Fin k1_t1_loop.trips) (n : Nat)
    (hoff : ∀ a, rowOff t n a + S1x16.size a ≤ S64x256.size a) {k : V16 F → TProg F i α} :
    iprop(has (thr d i) fullShare lutb L ∗ has (thr d i) fullShare cod C)
      ⊢ iprop((iprop(has (thr d i) fullShare lutb L ∗ has (thr d i) fullShare cod C)
            -∗ wp frame (wpE defs 𝒱 (thr d i) bd) Set.univ (k (gathVal L C v38 t.val n)) Q)
        -∗ wp frame (wpE defs 𝒱 (thr d i) bd) Set.univ (gath i lutb cod (baseOf v38 t) (rowOff t n) hoff >>= k) Q) := by
  iintro ⟨HL, HC⟩ Hk
  have hchk : k1_chk1 (addi (shapeCast S16 (fun x => C ((Rect.unit (s := S64x256) (rowOff t n) S1x16.size hoff).emb x) : Vec F S1x16 .i32) shapeCasts_S1x16_S16) (baseOf v38 t)) := by
    intro a l
    obtain rfl : a = 0 := Subsingleton.elim _ _
    show BitVec.toNat (addi _ _ l) < 32768
    rw [idx_eq]
    exact posOf_lt hC hv (trip_lt t) n l
  unfold gath
  simp only [bind_assoc]
  iapply (wp_loadR 𝒱 (thr d i) bd (m := cod)) $$ HC
  iintro HC
  iapply (Entails.of_eq (wp_assume_of 𝒱 (thr d i) bd Set.univ hchk).symm)
  iapply (wp_gatherIdx 𝒱 (thr d i) bd (base := lutb) (hl := View.loads_vmem h_S32768) (h := k1_idx1_inb _ hchk)) $$ HL
  iintro HL
  have hg : loadIdx L ![addi (shapeCast S16 (fun x => C ((Rect.unit (s := S64x256) (rowOff t n) S1x16.size hoff).emb x) : Vec F S1x16 .i32) shapeCasts_S1x16_S16) (baseOf v38 t)]
      (k1_idx1_inb _ hchk) = gathVal L C v38 t.val n := by
    funext l
    unfold gathVal at1 loadIdx
    congr 1
    funext a
    apply Fin.ext
    obtain rfl : a = 0 := Subsingleton.elim _ _
    have := posOf_lt hC hv (trip_lt t) n l
    show BitVec.toNat (addi _ _ l) = _ % 32768
    rw [idx_eq]; omega
  rw [hg]
  iapply Hk
  isplitl [HL] <;> iassumption

/-- One trip of a loop: every accumulator moves on by one row of codes. -/
theorem wp_trip (hC : CodesOK C) (hv : BaseOK v38) (t : Fin k1_t1_loop.trips) (g : Fin 16 → V16 F) :
    iprop(has (thr d i) fullShare lutb L ∗ has (thr d i) fullShare cod C)
      ⊢ wp frame (wpE defs 𝒱 (thr d i) bd) Set.univ (trip i lutb cod v38 t (accOf g))
          (fun acc => iprop(⌜acc = accOf fun v => addf (g v) (gathVal L C v38 t.val (16 * v.val))⌝
            ∗ has (thr d i) fullShare lutb L ∗ has (thr d i) fullShare cod C)) := by
  unfold trip accOf
  iintro H
  iapply (wp_gath 𝒱 d i bd hC hv t 0 (k1_off4_inb t)) $$ H
  iintro H
  iapply (wp_gath 𝒱 d i bd hC hv t 16 (k1_off5_inb t)) $$ H
  iintro H
  iapply (wp_gath 𝒱 d i bd hC hv t 32 (k1_off6_inb t)) $$ H
  iintro H
  iapply (wp_gath 𝒱 d i bd hC hv t 48 (k1_off7_inb t)) $$ H
  iintro H
  iapply (wp_gath 𝒱 d i bd hC hv t 64 (k1_off8_inb t)) $$ H
  iintro H
  iapply (wp_gath 𝒱 d i bd hC hv t 80 (k1_off9_inb t)) $$ H
  iintro H
  iapply (wp_gath 𝒱 d i bd hC hv t 96 (k1_off10_inb t)) $$ H
  iintro H
  iapply (wp_gath 𝒱 d i bd hC hv t 112 (k1_off11_inb t)) $$ H
  iintro H
  iapply (wp_gath 𝒱 d i bd hC hv t 128 (k1_off12_inb t)) $$ H
  iintro H
  iapply (wp_gath 𝒱 d i bd hC hv t 144 (k1_off13_inb t)) $$ H
  iintro H
  iapply (wp_gath 𝒱 d i bd hC hv t 160 (k1_off14_inb t)) $$ H
  iintro H
  iapply (wp_gath 𝒱 d i bd hC hv t 176 (k1_off15_inb t)) $$ H
  iintro H
  iapply (wp_gath 𝒱 d i bd hC hv t 192 (k1_off16_inb t)) $$ H
  iintro H
  iapply (wp_gath 𝒱 d i bd hC hv t 208 (k1_off17_inb t)) $$ H
  iintro H
  iapply (wp_gath 𝒱 d i bd hC hv t 224 (k1_off18_inb t)) $$ H
  iintro H
  iapply (wp_gath 𝒱 d i bd hC hv t 240 (k1_off19_inb t)) $$ H
  iintro H
  rw [wp_pure]
  imodintro
  isplitr
  · ipureintro; rfl
  · iexact H

/-- The loop over the 64 rows of a chunk's codes. -/
theorem wp_loop (hC : CodesOK C) (hv : BaseOK v38) (hok : k1_t1_loop.OK) (g : Fin 16 → V16 F) {k : Acc F → TProg F i α} :
    iprop(has (thr d i) fullShare lutb L ∗ has (thr d i) fullShare cod C)
      ⊢ iprop((iprop(has (thr d i) fullShare lutb L ∗ has (thr d i) fullShare cod C)
            -∗ wp frame (wpE defs 𝒱 (thr d i) bd) Set.univ (k (accOf fun v => foldVal L C v38 (16 * v.val) 64 (g v))) Q)
        -∗ wp frame (wpE defs 𝒱 (thr d i) bd) Set.univ (Scf.Loop.for k1_t1_loop hok (accOf g) (trip i lutb cod v38) >>= k) Q) := by
  iintro H Hk
  iapply (Scf.wp_for_bind frame (wpE defs 𝒱 (thr d i) bd) Set.univ k1_t1_loop.lb k1_t1_loop.ub k1_t1_loop.st hok (accOf g) (trip i lutb cod v38)
    (fun n acc => iprop(⌜acc = accOf fun v => foldVal L C v38 (16 * v.val) n (g v)⌝
            ∗ has (thr d i) fullShare lutb L ∗ has (thr d i) fullShare cod C)) (by
      intro t acc
      iintro ⟨%hacc, H⟩
      subst hacc
      iapply (wp_trip 𝒱 d i bd hC hv t) $$ H)) $$ [H]
  · isplitr; · ipureintro; rfl
    iexact H
  iintro %acc ⟨%hacc, H⟩
  rw [show Scf.trips k1_t1_loop.lb k1_t1_loop.ub k1_t1_loop.st = 64 from trips64] at hacc
  subst hacc
  iapply Hk $$ H

end Rules

end Cert.KernelIdeal.Hand
-- ==== Proof.IParts.lean ====
module

public import proofs.«01_k».proof.Proof.ILoop

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The sixteen lane numbers. -/
def lanes : IVec S16 32 := iota .scVector S16 32 [0] iota_S16_d0_w32_scVector

/-- The base of a lane: 256 at the odd lanes, 0 at the even ones. -/
def laneBase : IVec S16 32 := k1_pay240 (Scalar.select (Scalar.cmpi .eq 2#32 0#32) 1#32 2#32) k1_pay237 k1_pay238 k1_pay239

/-- The accumulators after `n` chunks, from the chunks' table rows and codes. -/
def accK (Ls : Nat → S32768.Idx → Elt F .f32) (Cs : Nat → S64x256.Idx → Elt F .i32) : Nat → Fin 16 → V16 F
  | 0, _ => broadcast S16 (Scalar.ofBits .f32 0x00000000#32)
  | n + 1, v => foldVal (Ls n) (Cs n) laneBase (16 * v.val) 64 (accK Ls Cs n v)

/-- The accumulators as the scratch array of 256 holds them: slot `y / 16`, lane `y % 16`. -/
def accBuf (A : Fin 16 → V16 F) : S256.Idx → Elt F .f32 :=
  fun y => A ⟨(y 0).val / 16, by have := (y 0).isLt; show _ < 16; have h : S256.size 0 = 256 := rfl; omega⟩
    (fun a => ⟨(y 0).val % 16, by fin_cases a; exact Nat.mod_lt _ (by decide)⟩)

/-- The element of the accumulators' array at position `k`. -/
def at256 (B : S256.Idx → Elt F .f32) (k : Nat) : Elt F .f32 :=
  B fun a => ⟨k % S256.size a, Nat.mod_lt _ (by fin_cases a; decide)⟩

/-- What a subcore writes at its output `o`: the two accumulators' sum, scaled. -/
def outVal (B : S256.Idx → Elt F .f32) (Sc : S128.Idx → Elt F .f32) : S128.Idx → Elt F .f32 :=
  fun o => FloatOps.mulf (φ := .f32) (FloatOps.addf (φ := .f32) (at256 B (2 * (o 0).val)) (at256 B (2 * (o 0).val + 1))) (Sc o)

/-- The first `16 n` accumulators are in the array. -/
def AccUpTo (A : Fin 16 → V16 F) (n : Nat) (B : S256.Idx → Elt F .f32) : Prop :=
  ∀ y, (y 0).val < 16 * n → B y = accBuf A y

/-- The first `16 n` outputs are in the array. -/
def OutUpTo (O : S128.Idx → Elt F .f32) (n : Nat) (B : S128.Idx → Elt F .f32) : Prop :=
  ∀ y, (y 0).val < 16 * n → B y = O y

/-- Storing slot `v` behind the slots before it. -/
theorem acc_step (A : Fin 16 → V16 F) (v : Nat) (hv : v < 16) (inb : ∀ a, (![16 * v] : Fin 1 → Nat) a + S16.size a ≤ S256.size a)
    (L L' : S256.Idx → Elt F .f32) (hL : AccUpTo A v L)
    (h1 : ∀ x, L' ((Rect.unit (s := S256) ![16 * v] S16.size inb).emb x) = A ⟨v, hv⟩ x)
    (h2 : ∀ y, y ∉ (Rect.unit (s := S256) ![16 * v] S16.size inb).set → L' y = L y) : AccUpTo A (v + 1) L' := by
  intro y hy
  by_cases h : (y 0).val < 16 * v
  · rw [h2 y (by
      rw [Rect.mem_set_unit]; intro h'
      have := (h' 0).1
      have h3 : (![16 * v] : Fin 1 → Nat) 0 = 16 * v := rfl
      omega)]
    exact hL y h
  · have hx := h1 (fun a => ⟨(y 0).val - 16 * v, by fin_cases a; show _ < 16; omega⟩)
    have he : (Rect.unit (s := S256) ![16 * v] S16.size inb).emb (fun a => ⟨(y 0).val - 16 * v, by fin_cases a; show _ < 16; omega⟩) = y := by
      funext a
      obtain rfl : a = 0 := Subsingleton.elim _ _
      apply Fin.ext
      show 16 * v + 1 * ((y 0).val - 16 * v) = (y 0).val
      omega
    rw [he] at hx
    rw [hx]
    unfold accBuf
    have e1 : (y 0).val / 16 = v := by omega
    have e2 : (y 0).val % 16 = (y 0).val - 16 * v := by omega
    have e3 : (⟨v, hv⟩ : Fin 16) = ⟨(y 0).val / 16, by omega⟩ := Fin.ext e1.symm
    rw [e3]
    congr 1
    funext a
    exact Fin.ext e2.symm

/-- Storing the sixteen outputs `u` behind the outputs before them. -/
theorem out_step (B : S256.Idx → Elt F .f32) (Sc : S128.Idx → Elt F .f32) (u : Nat) (inb : ∀ a, (![16 * u] : Fin 1 → Nat) a + S16.size a ≤ S128.size a)
    (ev od : IVec S16 32) (hu : u < 8) (hev : ∀ l, (ev l).toNat = 2 * (16 * u + (l 0).val)) (hod : ∀ l, (od l).toNat = 2 * (16 * u + (l 0).val) + 1)
    (hE : ∀ a x, ((![ev] : Fin 1 → IVec S16 32) a x).toNat < S256.size a) (hO : ∀ a x, ((![od] : Fin 1 → IVec S16 32) a x).toNat < S256.size a)
    (L L' : S128.Idx → Elt F .f32) (hL : OutUpTo (outVal B Sc) u L)
    (h1 : ∀ x, L' ((Rect.unit (s := S128) ![16 * u] S16.size inb).emb x)
      = mulf (addf (loadIdx B ![ev] hE) (loadIdx B ![od] hO)) (fun x => Sc ((Rect.unit (s := S128) ![16 * u] S16.size inb).emb x) : FVec F S16 .f32) x)
    (h2 : ∀ y, y ∉ (Rect.unit (s := S128) ![16 * u] S16.size inb).set → L' y = L y) : OutUpTo (outVal B Sc) (u + 1) L' := by
  intro y hy
  by_cases h : (y 0).val < 16 * u
  · rw [h2 y (by
      rw [Rect.mem_set_unit]; intro h'
      have := (h' 0).1
      have h3 : (![16 * u] : Fin 1 → Nat) 0 = 16 * u := rfl
      omega)]
    exact hL y h
  · have hx := h1 (fun a => ⟨(y 0).val - 16 * u, by fin_cases a; show _ < 16; omega⟩)
    have he : (Rect.unit (s := S128) ![16 * u] S16.size inb).emb (fun a => ⟨(y 0).val - 16 * u, by fin_cases a; show _ < 16; omega⟩) = y := by
      funext a
      obtain rfl : a = 0 := Subsingleton.elim _ _
      apply Fin.ext
      show 16 * u + 1 * ((y 0).val - 16 * u) = (y 0).val
      omega
    rw [he] at hx
    rw [hx]
    have key : ∀ (w : IVec S16 32) (n : Nat) (hw : ∀ a x, ((![w] : Fin 1 → IVec S16 32) a x).toNat < S256.size a) (x : S16.Idx),
        (w x).toNat = n → loadIdx B ![w] hw x = at256 B n := by
      intro w n hw x hn
      have hlt : (w x).toNat < 256 := hw 0 x
      unfold loadIdx at256
      congr 1
      funext a
      obtain rfl : a = 0 := Subsingleton.elim _ _
      apply Fin.ext
      show (w x).toNat = n % 256
      omega
    show FloatOps.mulf (FloatOps.addf (loadIdx B ![ev] hE _) (loadIdx B ![od] hO _)) (Sc ((Rect.unit (s := S128) ![16 * u] S16.size inb).emb _)) = outVal B Sc y
    rw [key ev (2 * (y 0).val) hE _ (by rw [hev]; show 2 * (16 * u + ((y 0).val - 16 * u)) = _; omega),
      key od (2 * (y 0).val + 1) hO _ (by rw [hod]; show 2 * (16 * u + ((y 0).val - 16 * u)) + 1 = _; omega), he]
    rfl

theorem lanes_apply (l : S16.Idx) : lanes l = BitVec.ofNat 32 (l 0).val :=
  iota_single_apply _ _ _ _ _ _

/-- The lane's base is 256 times the lane's parity. -/
theorem laneBase_apply (l : S16.Idx) : (laneBase l).toNat = 256 * ((l 0).val % 2) := by
  have key : ∀ n : Fin 16, (laneBase fun a => ⟨n.val, by fin_cases a; exact n.isLt⟩).toNat = 256 * (n.val % 2) := by decide
  exact key (l 0)

theorem baseOK : BaseOK laneBase := by
  intro l
  rw [laneBase_apply]
  omega

/-- Row `r` of the table, as the kernel slices it. -/
def lutRow (arg2 : Memref sig .scVector .hbm S8x32768 .f32) (r : Fin 8) : Memref sig .scVector .hbm S32768 .f32 :=
  (arg2.slice (Rect.unit (s := S8x32768) ![r.val, 0] S1x32768.size (by
    intro a; have := r.isLt; fin_cases a
    · show r.val + 1 ≤ 8; omega
    · exact le_of_eq rfl)) (fun _ => rfl)).squeeze S32768 squeezes_S1x32768_S32768

/-- A chunk's codes for this subcore, as the kernel slices them. -/
def codAt (arg3 : Memref sig .scVector .hbm S8x64x8192 .i32) (_i : grid1.Coords) (off : Fin 3 → Nat) (inb : ∀ a, off a + S1x64x256.size a ≤ S8x64x8192.size a) :
    Memref sig .scVector .hbm S64x256 .i32 :=
  (arg3.slice (Rect.unit (s := S8x64x8192) off S1x64x256.size inb) (fun _ => rfl)).squeeze S64x256 squeezes_S1x64x256_S64x256

/-- The subcore's 128 scales, as the kernel slices them. -/
def sclAt (arg4 : Memref sig .scVector .hbm S4096 .f32) (i : grid1.Coords) : Memref sig .scVector .hbm S128 .f32 :=
  arg4.slice (Rect.unit (s := S4096) (k1_off3 i) S128.size (k1_off3_inb i)) (fun _ => rfl)

/-- The subcore's 128 outputs, as the kernel slices them. -/
def outAt (arg5 : Memref sig .scVector .hbm S4096 .f32) (i : grid1.Coords) : Memref sig .scVector .hbm S128 .f32 :=
  arg5.slice (Rect.unit (s := S4096) (k1_off138 i) S128.size (k1_off138_inb i)) (fun _ => rfl)

section Loop
variable {defs : Defs nD τ sig (Elt F) Λ₀} (𝒱 : Variants) (d : Dev nD) (i : grid1.Coords) (bd : Option 𝒱.V)
variable {α : Type} {Q : α → sProp (MT nD τ sig (HIx 1) (Elt F) ℕ UU ℕ)}
variable {lutb : Memref sig .scVector .vmem S32768 .f32} {cod : Memref sig .scVector .vmem S64x256 .i32}

/-- The loop of chunk `n` moves all sixteen accumulators on by the chunk. -/
theorem wp_loopK (Ls : Nat → S32768.Idx → Elt F .f32) (Cs : Nat → S64x256.Idx → Elt F .i32) (n : Nat) (hC : CodesOK (Cs n)) (hok : k1_t1_loop.OK)
    {k : Acc F → TProg F i α} :
    iprop(has (thr d i) fullShare lutb (Ls n) ∗ has (thr d i) fullShare cod (Cs n))
      ⊢ iprop((iprop(has (thr d i) fullShare lutb (Ls n) ∗ has (thr d i) fullShare cod (Cs n))
            -∗ wp frame (wpE defs 𝒱 (thr d i) bd) Set.univ (k (accK Ls Cs (n + 1) 0, accK Ls Cs (n + 1) 1, accK Ls Cs (n + 1) 2, accK Ls Cs (n + 1) 3, accK Ls Cs (n + 1) 4, accK Ls Cs (n + 1) 5, accK Ls Cs (n + 1) 6, accK Ls Cs (n + 1) 7, accK Ls Cs (n + 1) 8, accK Ls Cs (n + 1) 9, accK Ls Cs (n + 1) 10, accK Ls Cs (n + 1) 11, accK Ls Cs (n + 1) 12, accK Ls Cs (n + 1) 13, accK Ls Cs (n + 1) 14, accK Ls Cs (n + 1) 15)) Q)
        -∗ wp frame (wpE defs 𝒱 (thr d i) bd) Set.univ (Scf.Loop.for k1_t1_loop hok (accK Ls Cs n 0, accK Ls Cs n 1, accK Ls Cs n 2, accK Ls Cs n 3, accK Ls Cs n 4, accK Ls Cs n 5, accK Ls Cs n 6, accK Ls Cs n 7, accK Ls Cs n 8, accK Ls Cs n 9, accK Ls Cs n 10, accK Ls Cs n 11, accK Ls Cs n 12, accK Ls Cs n 13, accK Ls Cs n 14, accK Ls Cs n 15) (trip i lutb cod laneBase) >>= k) Q) :=
  wp_loop 𝒱 d i bd hC baseOK hok (accK Ls Cs n)

end Loop

section Parts
variable {defs : Defs nD τ sig (Elt F) Λ₀} (𝒱 : Variants) (d : Dev nD) (i : grid1.Coords) (bd : Option 𝒱.V)
variable (arg2 : Memref sig .scVector .hbm S8x32768 .f32) (harg2 : arg2.IsWhole) (arg3 : Memref sig .scVector .hbm S8x64x8192 .i32) (harg3 : arg3.IsWhole) (arg4 : Memref sig .scVector .hbm S4096 .f32) (harg4 : arg4.IsWhole) (arg5 : Memref sig .scVector .hbm S4096 .f32) (harg5 : arg5.IsWhole) (arg6 : Memref sig .scVector .vmem S32768 .f32) (harg6 : arg6.IsWhole) (arg7 : Memref sig .scVector .vmem S32768 .f32) (harg7 : arg7.IsWhole) (arg8 : Memref sig .scVector .vmem S64x256 .i32) (harg8 : arg8.IsWhole) (arg9 : Memref sig .scVector .vmem S64x256 .i32) (harg9 : arg9.IsWhole) (arg10 : Memref sig .scVector .vmem S256 .f32) (harg10 : arg10.IsWhole) (arg11 : Memref sig .scVector .vmem S128 .f32) (harg11 : arg11.IsWhole) (arg12 : Memref sig .scVector .vmem S128 .f32) (harg12 : arg12.IsWhole) (arg13 : DmaSems sig S_) (arg14 : DmaSems sig S_) (arg15 : DmaSems sig S_) (arg16 : DmaSems sig S_) (v327_r0 : DmaSems sig S_) (v327_r1 : DmaSems sig S_)
variable (Ls : Nat → S32768.Idx → Elt F .f32) (Cs : Nat → S64x256.Idx → Elt F .i32) (Sc : S128.Idx → Elt F .f32) (q : Nat → PosShare TreeShare)
  (O : CellTallies nD τ sig (HIx 1)) (W : Waits sig (HIx 1))

/-- The first transfers are issued and the scales fetched. -/
theorem wp_part17 (hC : ∀ k, CodesOK (Cs k)) :
    iprop(has (thr d i) (q 0) (sclAt arg4 i) Sc
      ∗ hasAny (F := F) (thr d i) arg11
      ∗ semVal ((thr d i), .dma v327_r0.sem) 0
      ∗ has (thr d i) (q 0) (lutRow arg2 0) (Ls 0)
      ∗ hasAny (F := F) (thr d i) arg6
      ∗ semVal ((thr d i), .dma arg13.sem) 0
      ∗ has (thr d i) (q 0) (codAt arg3 i (k1_off1 i) (k1_off1_inb i)) (Cs 0)
      ∗ hasAny (F := F) (thr d i) arg8
      ∗ semVal ((thr d i), .dma arg15.sem) 0
      ∗ has (thr d i) (q 1) (lutRow arg2 1) (Ls 1)
      ∗ hasAny (F := F) (thr d i) arg7
      ∗ semVal ((thr d i), .dma arg14.sem) 0
      ∗ has (thr d i) (q 1) (codAt arg3 i (k1_off2 i) (k1_off2_inb i)) (Cs 1)
      ∗ hasAny (F := F) (thr d i) arg9
      ∗ semVal ((thr d i), .dma arg16.sem) 0
      ∗ owesW (F := F) (thr d i) O W ∗ MayWaits (thr d i) (none : HIx 1) O)
    ⊢ wp frame (wpE defs 𝒱 (thr d i) bd) Set.univ (k1_part17 (F := F) i arg2 harg2 arg3 harg3 arg4 harg4 arg5 harg5 arg6 harg6 arg7 harg7 arg8 harg8 arg9 harg9 arg10 harg10 arg11 harg11 arg12 harg12 arg13 arg14 arg15 arg16 v327_r0 v327_r1 )
      (fun r => iprop(⌜r = ⟨lanes, Scalar.select (Scalar.cmpi .eq 2#32 0#32) 1#32 2#32, k1_pay237, k1_pay238, k1_pay239⟩⌝
      ∗ has (thr d i) fullShare arg11 Sc
      ∗ semVal ((thr d i), .dma v327_r0.sem) 0
      ∗ Flight EC (thr d i) (.dma arg13.sem) (none : HIx 1) arg6.view.dmaCredit iprop(has (thr d i) fullShare arg6 (Ls 0) ∗ has (thr d i) (q 0) (lutRow arg2 0) (Ls 0))
      ∗ Flight EC (thr d i) (.dma arg15.sem) (none : HIx 1) arg8.view.dmaCredit iprop(has (thr d i) fullShare arg8 (Cs 0) ∗ has (thr d i) (q 0) (codAt arg3 i (k1_off1 i) (k1_off1_inb i)) (Cs 0))
      ∗ Flight EC (thr d i) (.dma arg14.sem) (none : HIx 1) arg7.view.dmaCredit iprop(has (thr d i) fullShare arg7 (Ls 1) ∗ has (thr d i) (q 1) (lutRow arg2 1) (Ls 1))
      ∗ Flight EC (thr d i) (.dma arg16.sem) (none : HIx 1) arg9.view.dmaCredit iprop(has (thr d i) fullShare arg9 (Cs 1) ∗ has (thr d i) (q 1) (codAt arg3 i (k1_off2 i) (k1_off2_inb i)) (Cs 1))
      ∗ owesW (F := F) (thr d i) O W)) := by
  rw [k1_part17_eq_skeleton]
  unfold k1_part17_skel
  iintro ⟨RS, B11, SS, RL0, B6, S6, RC0, B8, S8, RL1, B7, S7, RC1, B9, S9, HO, #Hmw⟩
  iapply (wp_start 𝒱 (thr d i) bd (q := (q 0)) (src := (lutRow arg2 0)) (dst := arg6) (sem := arg13.sem) (L := (Ls 0)) (by decide)) $$ [RL0 B6 S6]
  · isplitl [RL0]; · iexact RL0
    isplitl [B6]; · iexact B6
    iexact S6
  iintro B6
  iapply (wp_start 𝒱 (thr d i) bd (q := (q 0)) (src := (codAt arg3 i (k1_off1 i) (k1_off1_inb i))) (dst := arg8) (sem := arg15.sem) (L := (Cs 0)) (by decide)) $$ [RC0 B8 S8]
  · isplitl [RC0]; · iexact RC0
    isplitl [B8]; · iexact B8
    iexact S8
  iintro B8
  iapply (wp_start 𝒱 (thr d i) bd (q := (q 1)) (src := (lutRow arg2 1)) (dst := arg7) (sem := arg14.sem) (L := (Ls 1)) (by decide)) $$ [RL1 B7 S7]
  · isplitl [RL1]; · iexact RL1
    isplitl [B7]; · iexact B7
    iexact S7
  iintro B7
  iapply (wp_start 𝒱 (thr d i) bd (q := (q 1)) (src := (codAt arg3 i (k1_off2 i) (k1_off2_inb i))) (dst := arg9) (sem := arg16.sem) (L := (Cs 1)) (by decide)) $$ [RC1 B9 S9]
  · isplitl [RC1]; · iexact RC1
    isplitl [B9]; · iexact B9
    iexact S9
  iintro B9
  iapply (wp_start 𝒱 (thr d i) bd (q := q 0) (src := sclAt arg4 i) (dst := arg11) (sem := v327_r0.sem) (L := Sc) (by decide)) $$ [RS B11 SS]
  · isplitl [RS]; · iexact RS
    isplitl [B11]; · iexact B11
    iexact SS
  iintro B11
  iapply (wp_await 𝒱 (thr d i) bd (sem := v327_r0.sem) (dstw := arg11) (O := O) (W := W)) $$ [B11 HO]
  · isplitl [B11]; · iexact B11
    isplitl [HO]; · iexact HO
    iexact Hmw
  iintro ⟨⟨B11, -⟩, SS, HO⟩
  rw [wp_pure]
  imodintro
  isplitr; · ipureintro; rfl
  isplitl [B11]; · iexact B11
  isplitl [SS]; · iexact SS
  isplitl [B6]; · iexact B6
  isplitl [B8]; · iexact B8
  isplitl [B7]; · iexact B7
  isplitl [B9]; · iexact B9
  iexact HO

/-- The wait for the first table row. -/
theorem wp_part18 (hC : ∀ k, CodesOK (Cs k)) :
    iprop(Flight EC (thr d i) (.dma arg13.sem) (none : HIx 1) arg6.view.dmaCredit iprop(has (thr d i) fullShare arg6 (Ls 0) ∗ has (thr d i) (q 0) (lutRow arg2 0) (Ls 0))
      ∗ owesW (F := F) (thr d i) O W ∗ MayWaits (thr d i) (none : HIx 1) O)
    ⊢ wp frame (wpE defs 𝒱 (thr d i) bd) Set.univ (k1_part18 (F := F) i arg2 harg2 arg3 harg3 arg4 harg4 arg5 harg5 arg6 harg6 arg7 harg7 arg8 harg8 arg9 harg9 arg10 harg10 arg11 harg11 arg12 harg12 arg13 arg14 arg15 arg16 v327_r0 v327_r1 (Scalar.select (Scalar.cmpi .eq 2#32 0#32) 1#32 2#32) k1_pay237 k1_pay238 k1_pay239)
      (fun r => iprop(⌜r = ⟨laneBase, accK Ls Cs 0 0, accK Ls Cs 0 1, accK Ls Cs 0 2, accK Ls Cs 0 3, accK Ls Cs 0 4, accK Ls Cs 0 5, accK Ls Cs 0 6, accK Ls Cs 0 7, accK Ls Cs 0 8, accK Ls Cs 0 9, accK Ls Cs 0 10, accK Ls Cs 0 11, accK Ls Cs 0 12, accK Ls Cs 0 13, accK Ls Cs 0 14, accK Ls Cs 0 15⟩⌝
      ∗ has (thr d i) fullShare arg6 (Ls 0)
      ∗ semVal ((thr d i), .dma arg13.sem) 0
      ∗ owesW (F := F) (thr d i) O W)) := by
  rw [k1_part18_eq_skeleton]
  unfold k1_part18_skel
  iintro ⟨B6, HO, #Hmw⟩
  iapply (wp_await 𝒱 (thr d i) bd (sem := arg13.sem) (dstw := arg6) (O := O) (W := W)) $$ [B6 HO]
  · isplitl [B6]; · iexact B6
    isplitl [HO]; · iexact HO
    iexact Hmw
  iintro ⟨⟨B6, -⟩, S6, HO⟩
  rw [wp_pure]
  imodintro
  isplitr; · ipureintro; rfl
  isplitl [B6]; · iexact B6
  isplitl [S6]; · iexact S6
  iexact HO

/-- Chunks 0 and 1. -/
theorem wp_part19 (hC : ∀ k, CodesOK (Cs k)) :
    iprop(Flight EC (thr d i) (.dma arg15.sem) (none : HIx 1) arg8.view.dmaCredit iprop(has (thr d i) fullShare arg8 (Cs 0) ∗ has (thr d i) (q 0) (codAt arg3 i (k1_off1 i) (k1_off1_inb i)) (Cs 0))
      ∗ has (thr d i) fullShare arg6 (Ls 0)
      ∗ has (thr d i) (q 2) (lutRow arg2 2) (Ls 2)
      ∗ semVal ((thr d i), .dma arg13.sem) 0
      ∗ has (thr d i) (q 2) (codAt arg3 i (k1_off20 i) (k1_off20_inb i)) (Cs 2)
      ∗ Flight EC (thr d i) (.dma arg14.sem) (none : HIx 1) arg7.view.dmaCredit iprop(has (thr d i) fullShare arg7 (Ls 1) ∗ has (thr d i) (q 1) (lutRow arg2 1) (Ls 1))
      ∗ Flight EC (thr d i) (.dma arg16.sem) (none : HIx 1) arg9.view.dmaCredit iprop(has (thr d i) fullShare arg9 (Cs 1) ∗ has (thr d i) (q 1) (codAt arg3 i (k1_off2 i) (k1_off2_inb i)) (Cs 1))
      ∗ has (thr d i) (q 3) (lutRow arg2 3) (Ls 3)
      ∗ owesW (F := F) (thr d i) O W ∗ MayWaits (thr d i) (none : HIx 1) O)
    ⊢ wp frame (wpE defs 𝒱 (thr d i) bd) Set.univ (k1_part19 (F := F) i arg2 harg2 arg3 harg3 arg4 harg4 arg5 harg5 arg6 harg6 arg7 harg7 arg8 harg8 arg9 harg9 arg10 harg10 arg11 harg11 arg12 harg12 arg13 arg14 arg15 arg16 v327_r0 v327_r1 laneBase (accK Ls Cs 0 0) (accK Ls Cs 0 1) (accK Ls Cs 0 2) (accK Ls Cs 0 3) (accK Ls Cs 0 4) (accK Ls Cs 0 5) (accK Ls Cs 0 6) (accK Ls Cs 0 7) (accK Ls Cs 0 8) (accK Ls Cs 0 9) (accK Ls Cs 0 10) (accK Ls Cs 0 11) (accK Ls Cs 0 12) (accK Ls Cs 0 13) (accK Ls Cs 0 14) (accK Ls Cs 0 15))
      (fun r => iprop(⌜r = ⟨accK Ls Cs 2 0, accK Ls Cs 2 1, accK Ls Cs 2 2, accK Ls Cs 2 3, accK Ls Cs 2 4, accK Ls Cs 2 5, accK Ls Cs 2 6, accK Ls Cs 2 7, accK Ls Cs 2 8, accK Ls Cs 2 9, accK Ls Cs 2 10, accK Ls Cs 2 11, accK Ls Cs 2 12, accK Ls Cs 2 13, accK Ls Cs 2 14, accK Ls Cs 2 15⟩⌝
      ∗ Flight EC (thr d i) (.dma arg15.sem) (none : HIx 1) arg8.view.dmaCredit iprop(has (thr d i) fullShare arg8 (Cs 2) ∗ has (thr d i) (q 2) (codAt arg3 i (k1_off20 i) (k1_off20_inb i)) (Cs 2))
      ∗ Flight EC (thr d i) (.dma arg13.sem) (none : HIx 1) arg6.view.dmaCredit iprop(has (thr d i) fullShare arg6 (Ls 2) ∗ has (thr d i) (q 2) (lutRow arg2 2) (Ls 2))
      ∗ Flight EC (thr d i) (.dma arg14.sem) (none : HIx 1) arg7.view.dmaCredit iprop(has (thr d i) fullShare arg7 (Ls 3) ∗ has (thr d i) (q 3) (lutRow arg2 3) (Ls 3))
      ∗ has (thr d i) fullShare arg9 (Cs 1)
      ∗ semVal ((thr d i), .dma arg16.sem) 0
      ∗ owesW (F := F) (thr d i) O W)) := by
  rw [k1_part19_eq_skeleton]
  unfold k1_part19_skel
  simp only [k1_t1_body_eq, k1_t2_body_eq]
  iintro ⟨B8, B6, RL2, S6, RC2, B7, B9, RL3, HO, #Hmw⟩
  iapply (wp_await 𝒱 (thr d i) bd (sem := arg15.sem) (dstw := arg8) (O := O) (W := W)) $$ [B8 HO]
  · isplitl [B8]; · iexact B8
    isplitl [HO]; · iexact HO
    iexact Hmw
  iintro ⟨⟨B8, -⟩, S8, HO⟩
  iapply (wp_loopK 𝒱 d i bd Ls Cs 0 (hC 0) k1_t1_ok (lutb := arg6) (cod := arg8)) $$ [B6 B8]
  · isplitl [B6] <;> iassumption
  iintro ⟨B6, B8⟩
  ihave B6 := (hasAny_of_has (thr d i) arg6 _) $$ B6
  iapply (wp_start 𝒱 (thr d i) bd (q := (q 2)) (src := (lutRow arg2 2)) (dst := arg6) (sem := arg13.sem) (L := (Ls 2)) (by decide)) $$ [RL2 B6 S6]
  · isplitl [RL2]; · iexact RL2
    isplitl [B6]; · iexact B6
    iexact S6
  iintro B6
  ihave B8 := (hasAny_of_has (thr d i) arg8 _) $$ B8
  iapply (wp_start 𝒱 (thr d i) bd (q := (q 2)) (src := (codAt arg3 i (k1_off20 i) (k1_off20_inb i))) (dst := arg8) (sem := arg15.sem) (L := (Cs 2)) (by decide)) $$ [RC2 B8 S8]
  · isplitl [RC2]; · iexact RC2
    isplitl [B8]; · iexact B8
    iexact S8
  iintro B8
  iapply (wp_await 𝒱 (thr d i) bd (sem := arg14.sem) (dstw := arg7) (O := O) (W := W)) $$ [B7 HO]
  · isplitl [B7]; · iexact B7
    isplitl [HO]; · iexact HO
    iexact Hmw
  iintro ⟨⟨B7, -⟩, S7, HO⟩
  iapply (wp_await 𝒱 (thr d i) bd (sem := arg16.sem) (dstw := arg9) (O := O) (W := W)) $$ [B9 HO]
  · isplitl [B9]; · iexact B9
    isplitl [HO]; · iexact HO
    iexact Hmw
  iintro ⟨⟨B9, -⟩, S9, HO⟩
  iapply (wp_loopK 𝒱 d i bd Ls Cs 1 (hC 1) k1_t1_ok (lutb := arg7) (cod := arg9)) $$ [B7 B9]
  · isplitl [B7] <;> iassumption
  iintro ⟨B7, B9⟩
  ihave B7 := (hasAny_of_has (thr d i) arg7 _) $$ B7
  iapply (wp_start 𝒱 (thr d i) bd (q := (q 3)) (src := (lutRow arg2 3)) (dst := arg7) (sem := arg14.sem) (L := (Ls 3)) (by decide)) $$ [RL3 B7 S7]
  · isplitl [RL3]; · iexact RL3
    isplitl [B7]; · iexact B7
    iexact S7
  iintro B7
  rw [wp_pure]
  imodintro
  isplitr; · ipureintro; rfl
  isplitl [B8]; · iexact B8
  isplitl [B6]; · iexact B6
  isplitl [B7]; · iexact B7
  isplitl [B9]; · iexact B9
  isplitl [S9]; · iexact S9
  iexact HO

/-- Chunks 2 and 3. -/
theorem wp_part20 (hC : ∀ k, CodesOK (Cs k)) :
    iprop(has (thr d i) (q 3) (codAt arg3 i (k1_off37 i) (k1_off37_inb i)) (Cs 3)
      ∗ has (thr d i) fullShare arg9 (Cs 1)
      ∗ semVal ((thr d i), .dma arg16.sem) 0
      ∗ Flight EC (thr d i) (.dma arg13.sem) (none : HIx 1) arg6.view.dmaCredit iprop(has (thr d i) fullShare arg6 (Ls 2) ∗ has (thr d i) (q 2) (lutRow arg2 2) (Ls 2))
      ∗ Flight EC (thr d i) (.dma arg15.sem) (none : HIx 1) arg8.view.dmaCredit iprop(has (thr d i) fullShare arg8 (Cs 2) ∗ has (thr d i) (q 2) (codAt arg3 i (k1_off20 i) (k1_off20_inb i)) (Cs 2))
      ∗ has (thr d i) (q 4) (lutRow arg2 4) (Ls 4)
      ∗ has (thr d i) (q 4) (codAt arg3 i (k1_off54 i) (k1_off54_inb i)) (Cs 4)
      ∗ Flight EC (thr d i) (.dma arg14.sem) (none : HIx 1) arg7.view.dmaCredit iprop(has (thr d i) fullShare arg7 (Ls 3) ∗ has (thr d i) (q 3) (lutRow arg2 3) (Ls 3))
      ∗ owesW (F := F) (thr d i) O W ∗ MayWaits (thr d i) (none : HIx 1) O)
    ⊢ wp frame (wpE defs 𝒱 (thr d i) bd) Set.univ (k1_part20 (F := F) i arg2 harg2 arg3 harg3 arg4 harg4 arg5 harg5 arg6 harg6 arg7 harg7 arg8 harg8 arg9 harg9 arg10 harg10 arg11 harg11 arg12 harg12 arg13 arg14 arg15 arg16 v327_r0 v327_r1 laneBase (accK Ls Cs 2 0) (accK Ls Cs 2 1) (accK Ls Cs 2 2) (accK Ls Cs 2 3) (accK Ls Cs 2 4) (accK Ls Cs 2 5) (accK Ls Cs 2 6) (accK Ls Cs 2 7) (accK Ls Cs 2 8) (accK Ls Cs 2 9) (accK Ls Cs 2 10) (accK Ls Cs 2 11) (accK Ls Cs 2 12) (accK Ls Cs 2 13) (accK Ls Cs 2 14) (accK Ls Cs 2 15))
      (fun r => iprop(⌜r = ⟨accK Ls Cs 4 0, accK Ls Cs 4 1, accK Ls Cs 4 2, accK Ls Cs 4 3, accK Ls Cs 4 4, accK Ls Cs 4 5, accK Ls Cs 4 6, accK Ls Cs 4 7, accK Ls Cs 4 8, accK Ls Cs 4 9, accK Ls Cs 4 10, accK Ls Cs 4 11, accK Ls Cs 4 12, accK Ls Cs 4 13, accK Ls Cs 4 14, accK Ls Cs 4 15⟩⌝
      ∗ has (thr d i) fullShare arg9 (Cs 3)
      ∗ Flight EC (thr d i) (.dma arg13.sem) (none : HIx 1) arg6.view.dmaCredit iprop(has (thr d i) fullShare arg6 (Ls 4) ∗ has (thr d i) (q 4) (lutRow arg2 4) (Ls 4))
      ∗ Flight EC (thr d i) (.dma arg15.sem) (none : HIx 1) arg8.view.dmaCredit iprop(has (thr d i) fullShare arg8 (Cs 4) ∗ has (thr d i) (q 4) (codAt arg3 i (k1_off54 i) (k1_off54_inb i)) (Cs 4))
      ∗ has (thr d i) fullShare arg7 (Ls 3)
      ∗ semVal ((thr d i), .dma arg14.sem) 0
      ∗ semVal ((thr d i), .dma arg16.sem) 0
      ∗ owesW (F := F) (thr d i) O W)) := by
  rw [k1_part20_eq_skeleton]
  unfold k1_part20_skel
  simp only [k1_t3_body_eq, k1_t4_body_eq]
  iintro ⟨RC3, B9, S9, B6, B8, RL4, RC4, B7, HO, #Hmw⟩
  ihave B9 := (hasAny_of_has (thr d i) arg9 _) $$ B9
  iapply (wp_start 𝒱 (thr d i) bd (q := (q 3)) (src := (codAt arg3 i (k1_off37 i) (k1_off37_inb i))) (dst := arg9) (sem := arg16.sem) (L := (Cs 3)) (by decide)) $$ [RC3 B9 S9]
  · isplitl [RC3]; · iexact RC3
    isplitl [B9]; · iexact B9
    iexact S9
  iintro B9
  iapply (wp_await 𝒱 (thr d i) bd (sem := arg13.sem) (dstw := arg6) (O := O) (W := W)) $$ [B6 HO]
  · isplitl [B6]; · iexact B6
    isplitl [HO]; · iexact HO
    iexact Hmw
  iintro ⟨⟨B6, -⟩, S6, HO⟩
  iapply (wp_await 𝒱 (thr d i) bd (sem := arg15.sem) (dstw := arg8) (O := O) (W := W)) $$ [B8 HO]
  · isplitl [B8]; · iexact B8
    isplitl [HO]; · iexact HO
    iexact Hmw
  iintro ⟨⟨B8, -⟩, S8, HO⟩
  iapply (wp_loopK 𝒱 d i bd Ls Cs 2 (hC 2) k1_t1_ok (lutb := arg6) (cod := arg8)) $$ [B6 B8]
  · isplitl [B6] <;> iassumption
  iintro ⟨B6, B8⟩
  ihave B6 := (hasAny_of_has (thr d i) arg6 _) $$ B6
  iapply (wp_start 𝒱 (thr d i) bd (q := (q 4)) (src := (lutRow arg2 4)) (dst := arg6) (sem := arg13.sem) (L := (Ls 4)) (by decide)) $$ [RL4 B6 S6]
  · isplitl [RL4]; · iexact RL4
    isplitl [B6]; · iexact B6
    iexact S6
  iintro B6
  ihave B8 := (hasAny_of_has (thr d i) arg8 _) $$ B8
  iapply (wp_start 𝒱 (thr d i) bd (q := (q 4)) (src := (codAt arg3 i (k1_off54 i) (k1_off54_inb i))) (dst := arg8) (sem := arg15.sem) (L := (Cs 4)) (by decide)) $$ [RC4 B8 S8]
  · isplitl [RC4]; · iexact RC4
    isplitl [B8]; · iexact B8
    iexact S8
  iintro B8
  iapply (wp_await 𝒱 (thr d i) bd (sem := arg14.sem) (dstw := arg7) (O := O) (W := W)) $$ [B7 HO]
  · isplitl [B7]; · iexact B7
    isplitl [HO]; · iexact HO
    iexact Hmw
  iintro ⟨⟨B7, -⟩, S7, HO⟩
  iapply (wp_await 𝒱 (thr d i) bd (sem := arg16.sem) (dstw := arg9) (O := O) (W := W)) $$ [B9 HO]
  · isplitl [B9]; · iexact B9
    isplitl [HO]; · iexact HO
    iexact Hmw
  iintro ⟨⟨B9, -⟩, S9, HO⟩
  iapply (wp_loopK 𝒱 d i bd Ls Cs 3 (hC 3) k1_t1_ok (lutb := arg7) (cod := arg9)) $$ [B7 B9]
  · isplitl [B7] <;> iassumption
  iintro ⟨B7, B9⟩
  rw [wp_pure]
  imodintro
  isplitr; · ipureintro; rfl
  isplitl [B9]; · iexact B9
  isplitl [B6]; · iexact B6
  isplitl [B8]; · iexact B8
  isplitl [B7]; · iexact B7
  isplitl [S7]; · iexact S7
  isplitl [S9]; · iexact S9
  iexact HO

/-- Chunk 4. -/
theorem wp_part21 (hC : ∀ k, CodesOK (Cs k)) :
    iprop(has (thr d i) (q 5) (lutRow arg2 5) (Ls 5)
      ∗ has (thr d i) fullShare arg7 (Ls 3)
      ∗ semVal ((thr d i), .dma arg14.sem) 0
      ∗ has (thr d i) (q 5) (codAt arg3 i (k1_off71 i) (k1_off71_inb i)) (Cs 5)
      ∗ has (thr d i) fullShare arg9 (Cs 3)
      ∗ semVal ((thr d i), .dma arg16.sem) 0
      ∗ Flight EC (thr d i) (.dma arg13.sem) (none : HIx 1) arg6.view.dmaCredit iprop(has (thr d i) fullShare arg6 (Ls 4) ∗ has (thr d i) (q 4) (lutRow arg2 4) (Ls 4))
      ∗ Flight EC (thr d i) (.dma arg15.sem) (none : HIx 1) arg8.view.dmaCredit iprop(has (thr d i) fullShare arg8 (Cs 4) ∗ has (thr d i) (q 4) (codAt arg3 i (k1_off54 i) (k1_off54_inb i)) (Cs 4))
      ∗ has (thr d i) (q 6) (lutRow arg2 6) (Ls 6)
      ∗ has (thr d i) (q 6) (codAt arg3 i (k1_off88 i) (k1_off88_inb i)) (Cs 6)
      ∗ owesW (F := F) (thr d i) O W ∗ MayWaits (thr d i) (none : HIx 1) O)
    ⊢ wp frame (wpE defs 𝒱 (thr d i) bd) Set.univ (k1_part21 (F := F) i arg2 harg2 arg3 harg3 arg4 harg4 arg5 harg5 arg6 harg6 arg7 harg7 arg8 harg8 arg9 harg9 arg10 harg10 arg11 harg11 arg12 harg12 arg13 arg14 arg15 arg16 v327_r0 v327_r1 laneBase (accK Ls Cs 4 0) (accK Ls Cs 4 1) (accK Ls Cs 4 2) (accK Ls Cs 4 3) (accK Ls Cs 4 4) (accK Ls Cs 4 5) (accK Ls Cs 4 6) (accK Ls Cs 4 7) (accK Ls Cs 4 8) (accK Ls Cs 4 9) (accK Ls Cs 4 10) (accK Ls Cs 4 11) (accK Ls Cs 4 12) (accK Ls Cs 4 13) (accK Ls Cs 4 14) (accK Ls Cs 4 15))
      (fun r => iprop(⌜r = ⟨accK Ls Cs 5 0, accK Ls Cs 5 1, accK Ls Cs 5 2, accK Ls Cs 5 3, accK Ls Cs 5 4, accK Ls Cs 5 5, accK Ls Cs 5 6, accK Ls Cs 5 7, accK Ls Cs 5 8, accK Ls Cs 5 9, accK Ls Cs 5 10, accK Ls Cs 5 11, accK Ls Cs 5 12, accK Ls Cs 5 13, accK Ls Cs 5 14, accK Ls Cs 5 15⟩⌝
      ∗ Flight EC (thr d i) (.dma arg14.sem) (none : HIx 1) arg7.view.dmaCredit iprop(has (thr d i) fullShare arg7 (Ls 5) ∗ has (thr d i) (q 5) (lutRow arg2 5) (Ls 5))
      ∗ Flight EC (thr d i) (.dma arg16.sem) (none : HIx 1) arg9.view.dmaCredit iprop(has (thr d i) fullShare arg9 (Cs 5) ∗ has (thr d i) (q 5) (codAt arg3 i (k1_off71 i) (k1_off71_inb i)) (Cs 5))
      ∗ Flight EC (thr d i) (.dma arg13.sem) (none : HIx 1) arg6.view.dmaCredit iprop(has (thr d i) fullShare arg6 (Ls 6) ∗ has (thr d i) (q 6) (lutRow arg2 6) (Ls 6))
      ∗ Flight EC (thr d i) (.dma arg15.sem) (none : HIx 1) arg8.view.dmaCredit iprop(has (thr d i) fullShare arg8 (Cs 6) ∗ has (thr d i) (q 6) (codAt arg3 i (k1_off88 i) (k1_off88_inb i)) (Cs 6))
      ∗ owesW (F := F) (thr d i) O W)) := by
  rw [k1_part21_eq_skeleton]
  unfold k1_part21_skel
  simp only [k1_t5_body_eq]
  iintro ⟨RL5, B7, S7, RC5, B9, S9, B6, B8, RL6, RC6, HO, #Hmw⟩
  ihave B7 := (hasAny_of_has (thr d i) arg7 _) $$ B7
  iapply (wp_start 𝒱 (thr d i) bd (q := (q 5)) (src := (lutRow arg2 5)) (dst := arg7) (sem := arg14.sem) (L := (Ls 5)) (by decide)) $$ [RL5 B7 S7]
  · isplitl [RL5]; · iexact RL5
    isplitl [B7]; · iexact B7
    iexact S7
  iintro B7
  ihave B9 := (hasAny_of_has (thr d i) arg9 _) $$ B9
  iapply (wp_start 𝒱 (thr d i) bd (q := (q 5)) (src := (codAt arg3 i (k1_off71 i) (k1_off71_inb i))) (dst := arg9) (sem := arg16.sem) (L := (Cs 5)) (by decide)) $$ [RC5 B9 S9]
  · isplitl [RC5]; · iexact RC5
    isplitl [B9]; · iexact B9
    iexact S9
  iintro B9
  iapply (wp_await 𝒱 (thr d i) bd (sem := arg13.sem) (dstw := arg6) (O := O) (W := W)) $$ [B6 HO]
  · isplitl [B6]; · iexact B6
    isplitl [HO]; · iexact HO
    iexact Hmw
  iintro ⟨⟨B6, -⟩, S6, HO⟩
  iapply (wp_await 𝒱 (thr d i) bd (sem := arg15.sem) (dstw := arg8) (O := O) (W := W)) $$ [B8 HO]
  · isplitl [B8]; · iexact B8
    isplitl [HO]; · iexact HO
    iexact Hmw
  iintro ⟨⟨B8, -⟩, S8, HO⟩
  iapply (wp_loopK 𝒱 d i bd Ls Cs 4 (hC 4) k1_t1_ok (lutb := arg6) (cod := arg8)) $$ [B6 B8]
  · isplitl [B6] <;> iassumption
  iintro ⟨B6, B8⟩
  ihave B6 := (hasAny_of_has (thr d i) arg6 _) $$ B6
  iapply (wp_start 𝒱 (thr d i) bd (q := (q 6)) (src := (lutRow arg2 6)) (dst := arg6) (sem := arg13.sem) (L := (Ls 6)) (by decide)) $$ [RL6 B6 S6]
  · isplitl [RL6]; · iexact RL6
    isplitl [B6]; · iexact B6
    iexact S6
  iintro B6
  ihave B8 := (hasAny_of_has (thr d i) arg8 _) $$ B8
  iapply (wp_start 𝒱 (thr d i) bd (q := (q 6)) (src := (codAt arg3 i (k1_off88 i) (k1_off88_inb i))) (dst := arg8) (sem := arg15.sem) (L := (Cs 6)) (by decide)) $$ [RC6 B8 S8]
  · isplitl [RC6]; · iexact RC6
    isplitl [B8]; · iexact B8
    iexact S8
  iintro B8
  rw [wp_pure]
  imodintro
  isplitr; · ipureintro; rfl
  isplitl [B7]; · iexact B7
  isplitl [B9]; · iexact B9
  isplitl [B6]; · iexact B6
  isplitl [B8]; · iexact B8
  iexact HO

/-- Chunks 5 and 6. -/
theorem wp_part22 (hC : ∀ k, CodesOK (Cs k)) :
    iprop(Flight EC (thr d i) (.dma arg14.sem) (none : HIx 1) arg7.view.dmaCredit iprop(has (thr d i) fullShare arg7 (Ls 5) ∗ has (thr d i) (q 5) (lutRow arg2 5) (Ls 5))
      ∗ Flight EC (thr d i) (.dma arg16.sem) (none : HIx 1) arg9.view.dmaCredit iprop(has (thr d i) fullShare arg9 (Cs 5) ∗ has (thr d i) (q 5) (codAt arg3 i (k1_off71 i) (k1_off71_inb i)) (Cs 5))
      ∗ has (thr d i) (q 7) (lutRow arg2 7) (Ls 7)
      ∗ has (thr d i) (q 7) (codAt arg3 i (k1_off105 i) (k1_off105_inb i)) (Cs 7)
      ∗ Flight EC (thr d i) (.dma arg13.sem) (none : HIx 1) arg6.view.dmaCredit iprop(has (thr d i) fullShare arg6 (Ls 6) ∗ has (thr d i) (q 6) (lutRow arg2 6) (Ls 6))
      ∗ Flight EC (thr d i) (.dma arg15.sem) (none : HIx 1) arg8.view.dmaCredit iprop(has (thr d i) fullShare arg8 (Cs 6) ∗ has (thr d i) (q 6) (codAt arg3 i (k1_off88 i) (k1_off88_inb i)) (Cs 6))
      ∗ owesW (F := F) (thr d i) O W ∗ MayWaits (thr d i) (none : HIx 1) O)
    ⊢ wp frame (wpE defs 𝒱 (thr d i) bd) Set.univ (k1_part22 (F := F) i arg2 harg2 arg3 harg3 arg4 harg4 arg5 harg5 arg6 harg6 arg7 harg7 arg8 harg8 arg9 harg9 arg10 harg10 arg11 harg11 arg12 harg12 arg13 arg14 arg15 arg16 v327_r0 v327_r1 laneBase (accK Ls Cs 5 0) (accK Ls Cs 5 1) (accK Ls Cs 5 2) (accK Ls Cs 5 3) (accK Ls Cs 5 4) (accK Ls Cs 5 5) (accK Ls Cs 5 6) (accK Ls Cs 5 7) (accK Ls Cs 5 8) (accK Ls Cs 5 9) (accK Ls Cs 5 10) (accK Ls Cs 5 11) (accK Ls Cs 5 12) (accK Ls Cs 5 13) (accK Ls Cs 5 14) (accK Ls Cs 5 15))
      (fun r => iprop(⌜r = ⟨accK Ls Cs 7 0, accK Ls Cs 7 1, accK Ls Cs 7 2, accK Ls Cs 7 3, accK Ls Cs 7 4, accK Ls Cs 7 5, accK Ls Cs 7 6, accK Ls Cs 7 7, accK Ls Cs 7 8, accK Ls Cs 7 9, accK Ls Cs 7 10, accK Ls Cs 7 11, accK Ls Cs 7 12, accK Ls Cs 7 13, accK Ls Cs 7 14, accK Ls Cs 7 15⟩⌝
      ∗ Flight EC (thr d i) (.dma arg14.sem) (none : HIx 1) arg7.view.dmaCredit iprop(has (thr d i) fullShare arg7 (Ls 7) ∗ has (thr d i) (q 7) (lutRow arg2 7) (Ls 7))
      ∗ Flight EC (thr d i) (.dma arg16.sem) (none : HIx 1) arg9.view.dmaCredit iprop(has (thr d i) fullShare arg9 (Cs 7) ∗ has (thr d i) (q 7) (codAt arg3 i (k1_off105 i) (k1_off105_inb i)) (Cs 7))
      ∗ has (thr d i) fullShare arg6 (Ls 6)
      ∗ semVal ((thr d i), .dma arg13.sem) 0
      ∗ has (thr d i) fullShare arg8 (Cs 6)
      ∗ semVal ((thr d i), .dma arg15.sem) 0
      ∗ owesW (F := F) (thr d i) O W)) := by
  rw [k1_part22_eq_skeleton]
  unfold k1_part22_skel
  simp only [k1_t6_body_eq, k1_t7_body_eq]
  iintro ⟨B7, B9, RL7, RC7, B6, B8, HO, #Hmw⟩
  iapply (wp_await 𝒱 (thr d i) bd (sem := arg14.sem) (dstw := arg7) (O := O) (W := W)) $$ [B7 HO]
  · isplitl [B7]; · iexact B7
    isplitl [HO]; · iexact HO
    iexact Hmw
  iintro ⟨⟨B7, -⟩, S7, HO⟩
  iapply (wp_await 𝒱 (thr d i) bd (sem := arg16.sem) (dstw := arg9) (O := O) (W := W)) $$ [B9 HO]
  · isplitl [B9]; · iexact B9
    isplitl [HO]; · iexact HO
    iexact Hmw
  iintro ⟨⟨B9, -⟩, S9, HO⟩
  iapply (wp_loopK 𝒱 d i bd Ls Cs 5 (hC 5) k1_t1_ok (lutb := arg7) (cod := arg9)) $$ [B7 B9]
  · isplitl [B7] <;> iassumption
  iintro ⟨B7, B9⟩
  ihave B7 := (hasAny_of_has (thr d i) arg7 _) $$ B7
  iapply (wp_start 𝒱 (thr d i) bd (q := (q 7)) (src := (lutRow arg2 7)) (dst := arg7) (sem := arg14.sem) (L := (Ls 7)) (by decide)) $$ [RL7 B7 S7]
  · isplitl [RL7]; · iexact RL7
    isplitl [B7]; · iexact B7
    iexact S7
  iintro B7
  ihave B9 := (hasAny_of_has (thr d i) arg9 _) $$ B9
  iapply (wp_start 𝒱 (thr d i) bd (q := (q 7)) (src := (codAt arg3 i (k1_off105 i) (k1_off105_inb i))) (dst := arg9) (sem := arg16.sem) (L := (Cs 7)) (by decide)) $$ [RC7 B9 S9]
  · isplitl [RC7]; · iexact RC7
    isplitl [B9]; · iexact B9
    iexact S9
  iintro B9
  iapply (wp_await 𝒱 (thr d i) bd (sem := arg13.sem) (dstw := arg6) (O := O) (W := W)) $$ [B6 HO]
  · isplitl [B6]; · iexact B6
    isplitl [HO]; · iexact HO
    iexact Hmw
  iintro ⟨⟨B6, -⟩, S6, HO⟩
  iapply (wp_await 𝒱 (thr d i) bd (sem := arg15.sem) (dstw := arg8) (O := O) (W := W)) $$ [B8 HO]
  · isplitl [B8]; · iexact B8
    isplitl [HO]; · iexact HO
    iexact Hmw
  iintro ⟨⟨B8, -⟩, S8, HO⟩
  iapply (wp_loopK 𝒱 d i bd Ls Cs 6 (hC 6) k1_t1_ok (lutb := arg6) (cod := arg8)) $$ [B6 B8]
  · isplitl [B6] <;> iassumption
  iintro ⟨B6, B8⟩
  rw [wp_pure]
  imodintro
  isplitr; · ipureintro; rfl
  isplitl [B7]; · iexact B7
  isplitl [B9]; · iexact B9
  isplitl [B6]; · iexact B6
  isplitl [S6]; · iexact S6
  isplitl [B8]; · iexact B8
  isplitl [S8]; · iexact S8
  iexact HO

/-- Chunk 7, and the first fourteen slots of the accumulators stored. -/
theorem wp_part23 (hC : ∀ k, CodesOK (Cs k)) :
    iprop(hasP (thr d i) arg10 (AccUpTo (accK Ls Cs 8) 0)
      ∗ Flight EC (thr d i) (.dma arg14.sem) (none : HIx 1) arg7.view.dmaCredit iprop(has (thr d i) fullShare arg7 (Ls 7) ∗ has (thr d i) (q 7) (lutRow arg2 7) (Ls 7))
      ∗ Flight EC (thr d i) (.dma arg16.sem) (none : HIx 1) arg9.view.dmaCredit iprop(has (thr d i) fullShare arg9 (Cs 7) ∗ has (thr d i) (q 7) (codAt arg3 i (k1_off105 i) (k1_off105_inb i)) (Cs 7))
      ∗ owesW (F := F) (thr d i) O W ∗ MayWaits (thr d i) (none : HIx 1) O)
    ⊢ wp frame (wpE defs 𝒱 (thr d i) bd) Set.univ (k1_part23 (F := F) i arg2 harg2 arg3 harg3 arg4 harg4 arg5 harg5 arg6 harg6 arg7 harg7 arg8 harg8 arg9 harg9 arg10 harg10 arg11 harg11 arg12 harg12 arg13 arg14 arg15 arg16 v327_r0 v327_r1 laneBase (accK Ls Cs 7 0) (accK Ls Cs 7 1) (accK Ls Cs 7 2) (accK Ls Cs 7 3) (accK Ls Cs 7 4) (accK Ls Cs 7 5) (accK Ls Cs 7 6) (accK Ls Cs 7 7) (accK Ls Cs 7 8) (accK Ls Cs 7 9) (accK Ls Cs 7 10) (accK Ls Cs 7 11) (accK Ls Cs 7 12) (accK Ls Cs 7 13) (accK Ls Cs 7 14) (accK Ls Cs 7 15))
      (fun r => iprop(⌜r = ⟨accK Ls Cs 8 14, accK Ls Cs 8 15⟩⌝
      ∗ hasP (thr d i) arg10 (AccUpTo (accK Ls Cs 8) 14)
      ∗ has (thr d i) fullShare arg7 (Ls 7)
      ∗ semVal ((thr d i), .dma arg14.sem) 0
      ∗ has (thr d i) fullShare arg9 (Cs 7)
      ∗ semVal ((thr d i), .dma arg16.sem) 0
      ∗ owesW (F := F) (thr d i) O W)) := by
  rw [k1_part23_eq_skeleton]
  unfold k1_part23_skel
  simp only [k1_t8_body_eq]
  iintro ⟨B10, B7, B9, HO, #Hmw⟩
  iapply (wp_await 𝒱 (thr d i) bd (sem := arg14.sem) (dstw := arg7) (O := O) (W := W)) $$ [B7 HO]
  · isplitl [B7]; · iexact B7
    isplitl [HO]; · iexact HO
    iexact Hmw
  iintro ⟨⟨B7, -⟩, S7, HO⟩
  iapply (wp_await 𝒱 (thr d i) bd (sem := arg16.sem) (dstw := arg9) (O := O) (W := W)) $$ [B9 HO]
  · isplitl [B9]; · iexact B9
    isplitl [HO]; · iexact HO
    iexact Hmw
  iintro ⟨⟨B9, -⟩, S9, HO⟩
  iapply (wp_loopK 𝒱 d i bd Ls Cs 7 (hC 7) k1_t1_ok (lutb := arg7) (cod := arg9)) $$ [B7 B9]
  · isplitl [B7] <;> iassumption
  iintro ⟨B7, B9⟩
  iapply (wp_loadP 𝒱 (thr d i) bd (m := arg10) (P := AccUpTo (accK Ls Cs 8) 0)) $$ B10
  iintro %_ B10
  iapply (wp_storeP 𝒱 (thr d i) bd (m := arg10) (P := AccUpTo (accK Ls Cs 8) 0) (P' := AccUpTo (accK Ls Cs 8) 1) (fun L L' => acc_step (accK Ls Cs 8) 0 (by decide) _ L L')) $$ B10
  iintro B10
  iapply (wp_loadP 𝒱 (thr d i) bd (m := arg10) (P := AccUpTo (accK Ls Cs 8) 1)) $$ B10
  iintro %_ B10
  iapply (wp_storeP 𝒱 (thr d i) bd (m := arg10) (P := AccUpTo (accK Ls Cs 8) 1) (P' := AccUpTo (accK Ls Cs 8) 2) (fun L L' => acc_step (accK Ls Cs 8) 1 (by decide) _ L L')) $$ B10
  iintro B10
  iapply (wp_loadP 𝒱 (thr d i) bd (m := arg10) (P := AccUpTo (accK Ls Cs 8) 2)) $$ B10
  iintro %_ B10
  iapply (wp_storeP 𝒱 (thr d i) bd (m := arg10) (P := AccUpTo (accK Ls Cs 8) 2) (P' := AccUpTo (accK Ls Cs 8) 3) (fun L L' => acc_step (accK Ls Cs 8) 2 (by decide) _ L L')) $$ B10
  iintro B10
  iapply (wp_loadP 𝒱 (thr d i) bd (m := arg10) (P := AccUpTo (accK Ls Cs 8) 3)) $$ B10
  iintro %_ B10
  iapply (wp_storeP 𝒱 (thr d i) bd (m := arg10) (P := AccUpTo (accK Ls Cs 8) 3) (P' := AccUpTo (accK Ls Cs 8) 4) (fun L L' => acc_step (accK Ls Cs 8) 3 (by decide) _ L L')) $$ B10
  iintro B10
  iapply (wp_loadP 𝒱 (thr d i) bd (m := arg10) (P := AccUpTo (accK Ls Cs 8) 4)) $$ B10
  iintro %_ B10
  iapply (wp_storeP 𝒱 (thr d i) bd (m := arg10) (P := AccUpTo (accK Ls Cs 8) 4) (P' := AccUpTo (accK Ls Cs 8) 5) (fun L L' => acc_step (accK Ls Cs 8) 4 (by decide) _ L L')) $$ B10
  iintro B10
  iapply (wp_loadP 𝒱 (thr d i) bd (m := arg10) (P := AccUpTo (accK Ls Cs 8) 5)) $$ B10
  iintro %_ B10
  iapply (wp_storeP 𝒱 (thr d i) bd (m := arg10) (P := AccUpTo (accK Ls Cs 8) 5) (P' := AccUpTo (accK Ls Cs 8) 6) (fun L L' => acc_step (accK Ls Cs 8) 5 (by decide) _ L L')) $$ B10
  iintro B10
  iapply (wp_loadP 𝒱 (thr d i) bd (m := arg10) (P := AccUpTo (accK Ls Cs 8) 6)) $$ B10
  iintro %_ B10
  iapply (wp_storeP 𝒱 (thr d i) bd (m := arg10) (P := AccUpTo (accK Ls Cs 8) 6) (P' := AccUpTo (accK Ls Cs 8) 7) (fun L L' => acc_step (accK Ls Cs 8) 6 (by decide) _ L L')) $$ B10
  iintro B10
  iapply (wp_loadP 𝒱 (thr d i) bd (m := arg10) (P := AccUpTo (accK Ls Cs 8) 7)) $$ B10
  iintro %_ B10
  iapply (wp_storeP 𝒱 (thr d i) bd (m := arg10) (P := AccUpTo (accK Ls Cs 8) 7) (P' := AccUpTo (accK Ls Cs 8) 8) (fun L L' => acc_step (accK Ls Cs 8) 7 (by decide) _ L L')) $$ B10
  iintro B10
  iapply (wp_loadP 𝒱 (thr d i) bd (m := arg10) (P := AccUpTo (accK Ls Cs 8) 8)) $$ B10
  iintro %_ B10
  iapply (wp_storeP 𝒱 (thr d i) bd (m := arg10) (P := AccUpTo (accK Ls Cs 8) 8) (P' := AccUpTo (accK Ls Cs 8) 9) (fun L L' => acc_step (accK Ls Cs 8) 8 (by decide) _ L L')) $$ B10
  iintro B10
  iapply (wp_loadP 𝒱 (thr d i) bd (m := arg10) (P := AccUpTo (accK Ls Cs 8) 9)) $$ B10
  iintro %_ B10
  iapply (wp_storeP 𝒱 (thr d i) bd (m := arg10) (P := AccUpTo (accK Ls Cs 8) 9) (P' := AccUpTo (accK Ls Cs 8) 10) (fun L L' => acc_step (accK Ls Cs 8) 9 (by decide) _ L L')) $$ B10
  iintro B10
  iapply (wp_loadP 𝒱 (thr d i) bd (m := arg10) (P := AccUpTo (accK Ls Cs 8) 10)) $$ B10
  iintro %_ B10
  iapply (wp_storeP 𝒱 (thr d i) bd (m := arg10) (P := AccUpTo (accK Ls Cs 8) 10) (P' := AccUpTo (accK Ls Cs 8) 11) (fun L L' => acc_step (accK Ls Cs 8) 10 (by decide) _ L L')) $$ B10
  iintro B10
  iapply (wp_loadP 𝒱 (thr d i) bd (m := arg10) (P := AccUpTo (accK Ls Cs 8) 11)) $$ B10
  iintro %_ B10
  iapply (wp_storeP 𝒱 (thr d i) bd (m := arg10) (P := AccUpTo (accK Ls Cs 8) 11) (P' := AccUpTo (accK Ls Cs 8) 12) (fun L L' => acc_step (accK Ls Cs 8) 11 (by decide) _ L L')) $$ B10
  iintro B10
  iapply (wp_loadP 𝒱 (thr d i) bd (m := arg10) (P := AccUpTo (accK Ls Cs 8) 12)) $$ B10
  iintro %_ B10
  iapply (wp_storeP 𝒱 (thr d i) bd (m := arg10) (P := AccUpTo (accK Ls Cs 8) 12) (P' := AccUpTo (accK Ls Cs 8) 13) (fun L L' => acc_step (accK Ls Cs 8) 12 (by decide) _ L L')) $$ B10
  iintro B10
  iapply (wp_loadP 𝒱 (thr d i) bd (m := arg10) (P := AccUpTo (accK Ls Cs 8) 13)) $$ B10
  iintro %_ B10
  iapply (wp_storeP 𝒱 (thr d i) bd (m := arg10) (P := AccUpTo (accK Ls Cs 8) 13) (P' := AccUpTo (accK Ls Cs 8) 14) (fun L L' => acc_step (accK Ls Cs 8) 13 (by decide) _ L L')) $$ B10
  iintro B10
  rw [wp_pure]
  imodintro
  isplitr; · ipureintro; rfl
  isplitl [B10]; · iexact B10
  isplitl [B7]; · iexact B7
  isplitl [S7]; · iexact S7
  isplitl [B9]; · iexact B9
  isplitl [S9]; · iexact S9
  iexact HO

end Parts

end Cert.KernelIdeal.Hand
-- ==== Proof.IOut.lean ====
module

public import proofs.«01_k».proof.Proof.IParts

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The even positions that output step `u` reads. -/
def ev (u : Nat) : IVec S16 32 := addi (muli lanes (broadcast S16 2#32)) (broadcast S16 (BitVec.ofNat 32 (32 * u)))

/-- The odd positions that output step `u` reads. -/
def od (u : Nat) : IVec S16 32 := addi (ev u) (broadcast S16 1#32)

theorem ev_toNat (u : Nat) (hu : u < 8) (l : S16.Idx) : (ev u l).toNat = 2 * (16 * u + (l 0).val) := by
  have hl : (l 0).val < 16 := (l 0).isLt
  show (lanes l * 2#32 + BitVec.ofNat 32 (32 * u)).toNat = _
  rw [lanes_apply]
  simp only [BitVec.toNat_add, BitVec.toNat_mul, BitVec.toNat_ofNat]
  omega

theorem od_toNat (u : Nat) (hu : u < 8) (l : S16.Idx) : (od u l).toNat = 2 * (16 * u + (l 0).val) + 1 := by
  have hl : (l 0).val < 16 := (l 0).isLt
  show (ev u l + 1#32).toNat = _
  have := ev_toNat u hu l
  simp only [BitVec.toNat_add, BitVec.toNat_ofNat]
  omega

theorem ev_lt (u : Nat) (hu : u < 8) : ∀ a x, ((![ev u] : Fin 1 → IVec S16 32) a x).toNat < S256.size a := by
  intro a l
  obtain rfl : a = 0 := Subsingleton.elim _ _
  have hl : (l 0).val < 16 := (l 0).isLt
  show (ev u l).toNat < 256
  rw [ev_toNat u hu]; omega

theorem od_lt (u : Nat) (hu : u < 8) : ∀ a x, ((![od u] : Fin 1 → IVec S16 32) a x).toNat < S256.size a := by
  intro a l
  obtain rfl : a = 0 := Subsingleton.elim _ _
  have hl : (l 0).val < 16 := (l 0).isLt
  show (od u l).toNat < 256
  rw [od_toNat u hu]; omega

section Parts
variable {defs : Defs nD τ sig (Elt F) Λ₀} (𝒱 : Variants) (d : Dev nD) (i : grid1.Coords) (bd : Option 𝒱.V)
variable (arg2 : Memref sig .scVector .hbm S8x32768 .f32) (harg2 : arg2.IsWhole) (arg3 : Memref sig .scVector .hbm S8x64x8192 .i32) (harg3 : arg3.IsWhole) (arg4 : Memref sig .scVector .hbm S4096 .f32) (harg4 : arg4.IsWhole) (arg5 : Memref sig .scVector .hbm S4096 .f32) (harg5 : arg5.IsWhole) (arg6 : Memref sig .scVector .vmem S32768 .f32) (harg6 : arg6.IsWhole) (arg7 : Memref sig .scVector .vmem S32768 .f32) (harg7 : arg7.IsWhole) (arg8 : Memref sig .scVector .vmem S64x256 .i32) (harg8 : arg8.IsWhole) (arg9 : Memref sig .scVector .vmem S64x256 .i32) (harg9 : arg9.IsWhole) (arg10 : Memref sig .scVector .vmem S256 .f32) (harg10 : arg10.IsWhole) (arg11 : Memref sig .scVector .vmem S128 .f32) (harg11 : arg11.IsWhole) (arg12 : Memref sig .scVector .vmem S128 .f32) (harg12 : arg12.IsWhole) (arg13 : DmaSems sig S_) (arg14 : DmaSems sig S_) (arg15 : DmaSems sig S_) (arg16 : DmaSems sig S_) (v327_r0 : DmaSems sig S_) (v327_r1 : DmaSems sig S_)
variable (Ls : Nat → S32768.Idx → Elt F .f32) (Cs : Nat → S64x256.Idx → Elt F .i32) (Sc : S128.Idx → Elt F .f32) (q : Nat → PosShare TreeShare)
  (O : CellTallies nD τ sig (HIx 1)) (W : Waits sig (HIx 1))

/-- All sixteen slots stored: the array holds the accumulators. -/
theorem acc_full (A : Fin 16 → V16 F) (L : S256.Idx → Elt F .f32) (h : AccUpTo A 16 L) : L = accBuf A :=
  funext fun y => h y (by have := (y 0).isLt; have h' : S256.size 0 = 256 := rfl; omega)

/-- All eight steps stored: the array holds the outputs. -/
theorem out_full (O : S128.Idx → Elt F .f32) (L : S128.Idx → Elt F .f32) (h : OutUpTo O 8 L) : L = O :=
  funext fun y => h y (by have := (y 0).isLt; have h' : S128.size 0 = 128 := rfl; omega)

/-- The last two slots stored, and output steps 0 and 1. -/
theorem wp_part24 :
    iprop(hasP (thr d i) arg10 (AccUpTo (accK Ls Cs 8) 14)
      ∗ has (thr d i) fullShare arg11 Sc
      ∗ hasP (thr d i) arg12 (OutUpTo (outVal (accBuf (accK Ls Cs 8)) Sc) 0))
    ⊢ wp frame (wpE defs 𝒱 (thr d i) bd) Set.univ (k1_part24 (F := F) i arg2 harg2 arg3 harg3 arg4 harg4 arg5 harg5 arg6 harg6 arg7 harg7 arg8 harg8 arg9 harg9 arg10 harg10 arg11 harg11 arg12 harg12 arg13 arg14 arg15 arg16 v327_r0 v327_r1 lanes (accK Ls Cs 8 14) (accK Ls Cs 8 15))
      (fun r => iprop(⌜r = k1_pay295 lanes⌝
      ∗ has (thr d i) fullShare arg10 (accBuf (accK Ls Cs 8))
      ∗ has (thr d i) fullShare arg11 Sc
      ∗ hasP (thr d i) arg12 (OutUpTo (outVal (accBuf (accK Ls Cs 8)) Sc) 2))) := by
  rw [k1_part24_eq_skeleton]
  unfold k1_part24_skel
  iintro ⟨B10, B11, B12⟩
  iapply (wp_loadP 𝒱 (thr d i) bd (m := arg10) (P := AccUpTo (accK Ls Cs 8) 14)) $$ B10
  iintro %_ B10
  iapply (wp_storeP 𝒱 (thr d i) bd (m := arg10) (P := AccUpTo (accK Ls Cs 8) 14) (P' := AccUpTo (accK Ls Cs 8) 15) (fun L L' => acc_step (accK Ls Cs 8) 14 (by decide) _ L L')) $$ B10
  iintro B10
  iapply (wp_loadP 𝒱 (thr d i) bd (m := arg10) (P := AccUpTo (accK Ls Cs 8) 15)) $$ B10
  iintro %_ B10
  iapply (wp_storeP 𝒱 (thr d i) bd (m := arg10) (P := AccUpTo (accK Ls Cs 8) 15) (P' := AccUpTo (accK Ls Cs 8) 16) (fun L L' => acc_step (accK Ls Cs 8) 15 (by decide) _ L L')) $$ B10
  iintro B10
  ihave B10 := (has_of_hasP (thr d i) arg10 _ (accBuf (accK Ls Cs 8)) (acc_full (accK Ls Cs 8))) $$ B10
  iapply (Entails.of_eq (wp_assume_of 𝒱 (thr d i) bd Set.univ (P := k1_chk129 (ev 0)) (ev_lt 0 (by decide))).symm)
  iapply (wp_gatherIdx 𝒱 (thr d i) bd (base := arg10) (idxs := ![ev 0]) (h := ev_lt 0 (by decide)) (hl := View.loads_vmem h_S256)) $$ B10
  iintro B10
  iapply (Entails.of_eq (wp_assume_of 𝒱 (thr d i) bd Set.univ (P := k1_chk130 (od 0)) (od_lt 0 (by decide))).symm)
  iapply (wp_gatherIdx 𝒱 (thr d i) bd (base := arg10) (idxs := ![od 0]) (h := od_lt 0 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 0)) $$ B12
  iintro %_ B12
  iapply (wp_storeP 𝒱 (thr d i) bd (m := arg12) (P := OutUpTo (outVal (accBuf (accK Ls Cs 8)) Sc) 0) (P' := OutUpTo (outVal (accBuf (accK Ls Cs 8)) Sc) 1) (fun L L' => out_step (accBuf (accK Ls Cs 8)) Sc 0 _ (ev 0) (od 0) (by decide) (ev_toNat 0 (by decide)) (od_toNat 0 (by decide)) (ev_lt 0 (by decide)) (od_lt 0 (by decide)) L L')) $$ B12
  iintro B12
  iapply (Entails.of_eq (wp_assume_of 𝒱 (thr d i) bd Set.univ (P := k1_chk131 (ev 1)) (ev_lt 1 (by decide))).symm)
  iapply (wp_gatherIdx 𝒱 (thr d i) bd (base := arg10) (idxs := ![ev 1]) (h := ev_lt 1 (by decide)) (hl := View.loads_vmem h_S256)) $$ B10
  iintro B10
  iapply (Entails.of_eq (wp_assume_of 𝒱 (thr d i) bd Set.univ (P := k1_chk132 (od 1)) (od_lt 1 (by decide))).symm)
  iapply (wp_gatherIdx 𝒱 (thr d i) bd (base := arg10) (idxs := ![od 1]) (h := od_lt 1 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 1)) $$ B12
  iintro %_ B12
  iapply (wp_storeP 𝒱 (thr d i) bd (m := arg12) (P := OutUpTo (outVal (accBuf (accK Ls Cs 8)) Sc) 1) (P' := OutUpTo (outVal (accBuf (accK Ls Cs 8)) Sc) 2) (fun L L' => out_step (accBuf (accK Ls Cs 8)) Sc 1 _ (ev 1) (od 1) (by decide) (ev_toNat 1 (by decide)) (od_toNat 1 (by decide)) (ev_lt 1 (by decide)) (od_lt 1 (by decide)) L L')) $$ B12
  iintro B12
  rw [wp_pure]
  imodintro
  isplitr; · ipureintro; rfl
  isplitl [B10]; · iexact B10
  isplitl [B11]; · iexact B11
  iexact B12

/-- Output steps 2 and 3, and the first gather of step 4. -/
theorem wp_part25 :
    iprop(has (thr d i) fullShare arg10 (accBuf (accK Ls Cs 8))
      ∗ has (thr d i) fullShare arg11 Sc
      ∗ hasP (thr d i) arg12 (OutUpTo (outVal (accBuf (accK Ls Cs 8)) Sc) 2))
    ⊢ wp frame (wpE defs 𝒱 (thr d i) bd) Set.univ (k1_part25 (F := F) i arg2 harg2 arg3 harg3 arg4 harg4 arg5 harg5 arg6 harg6 arg7 harg7 arg8 harg8 arg9 harg9 arg10 harg10 arg11 harg11 arg12 harg12 arg13 arg14 arg15 arg16 v327_r0 v327_r1 lanes (k1_pay295 lanes))
      (fun r => iprop(⌜r = ⟨(loadIdx (accBuf (accK Ls Cs 8)) ![ev 4] (ev_lt 4 (by decide))), k1_pay303 lanes⟩⌝
      ∗ has (thr d i) fullShare arg10 (accBuf (accK Ls Cs 8))
      ∗ has (thr d i) fullShare arg11 Sc
      ∗ hasP (thr d i) arg12 (OutUpTo (outVal (accBuf (accK Ls Cs 8)) Sc) 4))) := by
  rw [k1_part25_eq_skeleton]
  unfold k1_part25_skel
  iintro ⟨B10, B11, B12⟩
  iapply (Entails.of_eq (wp_assume_of 𝒱 (thr d i) bd Set.univ (P := k1_chk133 (ev 2)) (ev_lt 2 (by decide))).symm)
  iapply (wp_gatherIdx 𝒱 (thr d i) bd (base := arg10) (idxs := ![ev 2]) (h := ev_lt 2 (by decide)) (hl := View.loads_vmem h_S256)) $$ B10
  iintro B10
  iapply (Entails.of_eq (wp_assume_of 𝒱 (thr d i) bd Set.univ (P := k1_chk134 (od 2)) (od_lt 2 (by decide))).symm)
  iapply (wp_gatherIdx 𝒱 (thr d i) bd (base := arg10) (idxs := ![od 2]) (h := od_lt 2 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 2)) $$ B12
  iintro %_ B12
  iapply (wp_storeP 𝒱 (thr d i) bd (m := arg12) (P := OutUpTo (outVal (accBuf (accK Ls Cs 8)) Sc) 2) (P' := OutUpTo (outVal (accBuf (accK Ls Cs 8)) Sc) 3) (fun L L' => out_step (accBuf (accK Ls Cs 8)) Sc 2 _ (ev 2) (od 2) (by decide) (ev_toNat 2 (by decide)) (od_toNat 2 (by decide)) (ev_lt 2 (by decide)) (od_lt 2 (by decide)) L L')) $$ B12
  iintro B12
  iapply (Entails.of_eq (wp_assume_of 𝒱 (thr d i) bd Set.univ (P := k1_chk135 (ev 3)) (ev_lt 3 (by decide))).symm)
  iapply (wp_gatherIdx 𝒱 (thr d i) bd (base := arg10) (idxs := ![ev 3]) (h := ev_lt 3 (by decide)) (hl := View.loads_vmem h_S256)) $$ B10
  iintro B10
  iapply (Entails.of_eq (wp_assume_of 𝒱 (thr d i) bd Set.univ (P := k1_chk136 (od 3)) (od_lt 3 (by decide))).symm)
  iapply (wp_gatherIdx 𝒱 (thr d i) bd (base := arg10) (idxs := ![od 3]) (h := od_lt 3 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 3)) $$ B12
  iintro %_ B12
  iapply (wp_storeP 𝒱 (thr d i) bd (m := arg12) (P := OutUpTo (outVal (accBuf (accK Ls Cs 8)) Sc) 3) (P' := OutUpTo (outVal (accBuf (accK Ls Cs 8)) Sc) 4) (fun L L' => out_step (accBuf (accK Ls Cs 8)) Sc 3 _ (ev 3) (od 3) (by decide) (ev_toNat 3 (by decide)) (od_toNat 3 (by decide)) (ev_lt 3 (by decide)) (od_lt 3 (by decide)) L L')) $$ B12
  iintro B12
  iapply (Entails.of_eq (wp_assume_of 𝒱 (thr d i) bd Set.univ (P := k1_chk137 (ev 4)) (ev_lt 4 (by decide))).symm)
  iapply (wp_gatherIdx 𝒱 (thr d i) bd (base := arg10) (idxs := ![ev 4]) (h := ev_lt 4 (by decide)) (hl := View.loads_vmem h_S256)) $$ B10
  iintro B10
  rw [wp_pure]
  imodintro
  isplitr; · ipureintro; rfl
  isplitl [B10]; · iexact B10
  isplitl [B11]; · iexact B11
  iexact B12

/-- Output steps 4 and 5, and the gathers of step 6. -/
theorem wp_part26 :
    iprop(has (thr d i) fullShare arg10 (accBuf (accK Ls Cs 8))
      ∗ has (thr d i) fullShare arg11 Sc
      ∗ hasP (thr d i) arg12 (OutUpTo (outVal (accBuf (accK Ls Cs 8)) Sc) 4))
    ⊢ wp frame (wpE defs 𝒱 (thr d i) bd) Set.univ (k1_part26 (F := F) i arg2 harg2 arg3 harg3 arg4 harg4 arg5 harg5 arg6 harg6 arg7 harg7 arg8 harg8 arg9 harg9 arg10 harg10 arg11 harg11 arg12 harg12 arg13 arg14 arg15 arg16 v327_r0 v327_r1 lanes (loadIdx (accBuf (accK Ls Cs 8)) ![ev 4] (ev_lt 4 (by decide))) (k1_pay303 lanes))
      (fun r => iprop(⌜r = ⟨(loadIdx (accBuf (accK Ls Cs 8)) ![ev 6] (ev_lt 6 (by decide))), (loadIdx (accBuf (accK Ls Cs 8)) ![od 6] (od_lt 6 (by decide)))⟩⌝
      ∗ has (thr d i) fullShare arg10 (accBuf (accK Ls Cs 8))
      ∗ has (thr d i) fullShare arg11 Sc
      ∗ hasP (thr d i) arg12 (OutUpTo (outVal (accBuf (accK Ls Cs 8)) Sc) 6))) := by
  rw [k1_part26_eq_skeleton]
  unfold k1_part26_skel
  iintro ⟨B10, B11, B12⟩
  iapply (Entails.of_eq (wp_assume_of 𝒱 (thr d i) bd Set.univ (P := k1_chk138 (od 4)) (od_lt 4 (by decide))).symm)
  iapply (wp_gatherIdx 𝒱 (thr d i) bd (base := arg10) (idxs := ![od 4]) (h := od_lt 4 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 4)) $$ B12
  iintro %_ B12
  iapply (wp_storeP 𝒱 (thr d i) bd (m := arg12) (P := OutUpTo (outVal (accBuf (accK Ls Cs 8)) Sc) 4) (P' := OutUpTo (outVal (accBuf (accK Ls Cs 8)) Sc) 5) (fun L L' => out_step (accBuf (accK Ls Cs 8)) Sc 4 _ (ev 4) (od 4) (by decide) (ev_toNat 4 (by decide)) (od_toNat 4 (by decide)) (ev_lt 4 (by decide)) (od_lt 4 (by decide)) L L')) $$ B12
  iintro B12
  iapply (Entails.of_eq (wp_assume_of 𝒱 (thr d i) bd Set.univ (P := k1_chk139 (ev 5)) (ev_lt 5 (by decide))).symm)
  iapply (wp_gatherIdx 𝒱 (thr d i) bd (base := arg10) (idxs := ![ev 5]) (h := ev_lt 5 (by decide)) (hl := View.loads_vmem h_S256)) $$ B10
  iintro B10
  iapply (Entails.of_eq (wp_assume_of 𝒱 (thr d i) bd Set.univ (P := k1_chk140 (od 5)) (od_lt 5 (by decide))).symm)
  iapply (wp_gatherIdx 𝒱 (thr d i) bd (base := arg10) (idxs := ![od 5]) (h := od_lt 5 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 5)) $$ B12
  iintro %_ B12
  iapply (wp_storeP 𝒱 (thr d i) bd (m := arg12) (P := OutUpTo (outVal (accBuf (accK Ls Cs 8)) Sc) 5) (P' := OutUpTo (outVal (accBuf (accK Ls Cs 8)) Sc) 6) (fun L L' => out_step (accBuf (accK Ls Cs 8)) Sc 5 _ (ev 5) (od 5) (by decide) (ev_toNat 5 (by decide)) (od_toNat 5 (by decide)) (ev_lt 5 (by decide)) (od_lt 5 (by decide)) L L')) $$ B12
  iintro B12
  iapply (Entails.of_eq (wp_assume_of 𝒱 (thr d i) bd Set.univ (P := k1_chk141 (ev 6)) (ev_lt 6 (by decide))).symm)
  iapply (wp_gatherIdx 𝒱 (thr d i) bd (base := arg10) (idxs := ![ev 6]) (h := ev_lt 6 (by decide)) (hl := View.loads_vmem h_S256)) $$ B10
  iintro B10
  iapply (Entails.of_eq (wp_assume_of 𝒱 (thr d i) bd Set.univ (P := k1_chk142 (od 6)) (od_lt 6 (by decide))).symm)
  iapply (wp_gatherIdx 𝒱 (thr d i) bd (base := arg10) (idxs := ![od 6]) (h := od_lt 6 (by decide)) (hl := View.loads_vmem h_S256)) $$ B10
  iintro B10
  rw [wp_pure]
  imodintro
  isplitr; · ipureintro; rfl
  isplitl [B10]; · iexact B10
  isplitl [B11]; · iexact B11
  iexact B12

end Parts

end Cert.KernelIdeal.Hand
-- ==== Proof.ITile.lean ====
module

public import proofs.«01_k».proof.Proof.IOut

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {defs : Defs nD τ sig (Elt F) Λ₀} (𝒱 : Variants) (d : Dev nD) (i : grid1.Coords) (bd : Option 𝒱.V)

/-- A stretch of the program whose result is known, followed by the rest. -/
theorem wp_then {α β : Type} {p : Prog (TpuEff nD τ sig (Elt F) Λ₀ (thr d i).2) α} {v : α} {k : α → Prog (TpuEff nD τ sig (Elt F) Λ₀ (thr d i).2) β}
    {P R : sProp (MT nD τ sig (HIx 1) (Elt F) ℕ UU ℕ)} {Q : β → sProp (MT nD τ sig (HIx 1) (Elt F) ℕ UU ℕ)}
    (h : P ⊢ wp frame (wpE defs 𝒱 (thr d i) bd) Set.univ p (fun r => iprop(⌜r = v⌝ ∗ R))) :
    P ⊢ iprop((R -∗ wp frame (wpE defs 𝒱 (thr d i) bd) Set.univ (k v) Q) -∗ wp frame (wpE defs 𝒱 (thr d i) bd) Set.univ (p >>= k) Q) := by
  rw [wp_bind]
  iintro HP Hk
  ihave Hw := h $$ HP
  iapply (wp_wand frame) $$ Hw
  iintro %r ⟨%hr, HR⟩
  subst hr
  iapply Hk; iexact HR

variable (arg2 : Memref sig .scVector .hbm S8x32768 .f32) (harg2 : arg2.IsWhole) (arg3 : Memref sig .scVector .hbm S8x64x8192 .i32) (harg3 : arg3.IsWhole) (arg4 : Memref sig .scVector .hbm S4096 .f32) (harg4 : arg4.IsWhole) (arg5 : Memref sig .scVector .hbm S4096 .f32) (harg5 : arg5.IsWhole) (arg6 : Memref sig .scVector .vmem S32768 .f32) (harg6 : arg6.IsWhole) (arg7 : Memref sig .scVector .vmem S32768 .f32) (harg7 : arg7.IsWhole) (arg8 : Memref sig .scVector .vmem S64x256 .i32) (harg8 : arg8.IsWhole) (arg9 : Memref sig .scVector .vmem S64x256 .i32) (harg9 : arg9.IsWhole) (arg10 : Memref sig .scVector .vmem S256 .f32) (harg10 : arg10.IsWhole) (arg11 : Memref sig .scVector .vmem S128 .f32) (harg11 : arg11.IsWhole) (arg12 : Memref sig .scVector .vmem S128 .f32) (harg12 : arg12.IsWhole) (arg13 : DmaSems sig S_) (arg14 : DmaSems sig S_) (arg15 : DmaSems sig S_) (arg16 : DmaSems sig S_) (v327_r0 : DmaSems sig S_) (v327_r1 : DmaSems sig S_)
variable (Ls : Nat → S32768.Idx → Elt F .f32) (Cs : Nat → S64x256.Idx → Elt F .i32) (Sc : S128.Idx → Elt F .f32) (q : Nat → PosShare TreeShare)
  (O : CellTallies nD τ sig (HIx 1)) (W : Waits sig (HIx 1))

/-- The whole tile: its 128 outputs are the scaled sums of its neighbouring accumulators, and its scratch and semaphores come back. -/
theorem wp_tile (hC : ∀ k, CodesOK (Cs k)) :
    iprop(has (thr d i) (q 0) (lutRow arg2 0) (Ls 0)
      ∗ has (thr d i) (q 1) (lutRow arg2 1) (Ls 1)
      ∗ has (thr d i) (q 2) (lutRow arg2 2) (Ls 2)
      ∗ has (thr d i) (q 3) (lutRow arg2 3) (Ls 3)
      ∗ has (thr d i) (q 4) (lutRow arg2 4) (Ls 4)
      ∗ has (thr d i) (q 5) (lutRow arg2 5) (Ls 5)
      ∗ has (thr d i) (q 6) (lutRow arg2 6) (Ls 6)
      ∗ has (thr d i) (q 7) (lutRow arg2 7) (Ls 7)
      ∗ has (thr d i) (q 0) (codAt arg3 i (k1_off1 i) (k1_off1_inb i)) (Cs 0)
      ∗ has (thr d i) (q 1) (codAt arg3 i (k1_off2 i) (k1_off2_inb i)) (Cs 1)
      ∗ has (thr d i) (q 2) (codAt arg3 i (k1_off20 i) (k1_off20_inb i)) (Cs 2)
      ∗ has (thr d i) (q 3) (codAt arg3 i (k1_off37 i) (k1_off37_inb i)) (Cs 3)
      ∗ has (thr d i) (q 4) (codAt arg3 i (k1_off54 i) (k1_off54_inb i)) (Cs 4)
      ∗ has (thr d i) (q 5) (codAt arg3 i (k1_off71 i) (k1_off71_inb i)) (Cs 5)
      ∗ has (thr d i) (q 6) (codAt arg3 i (k1_off88 i) (k1_off88_inb i)) (Cs 6)
      ∗ has (thr d i) (q 7) (codAt arg3 i (k1_off105 i) (k1_off105_inb i)) (Cs 7)
      ∗ has (thr d i) (q 0) (sclAt arg4 i) Sc
      ∗ hasAny (F := F) (thr d i) (outAt arg5 i)
      ∗ hasAny (F := F) (thr d i) arg6
      ∗ hasAny (F := F) (thr d i) arg7
      ∗ hasAny (F := F) (thr d i) arg8
      ∗ hasAny (F := F) (thr d i) arg9
      ∗ hasAny (F := F) (thr d i) arg10
      ∗ hasAny (F := F) (thr d i) arg11
      ∗ hasAny (F := F) (thr d i) arg12
      ∗ semVal ((thr d i), .dma arg13.sem) 0
      ∗ semVal ((thr d i), .dma arg14.sem) 0
      ∗ semVal ((thr d i), .dma arg15.sem) 0
      ∗ semVal ((thr d i), .dma arg16.sem) 0
      ∗ semVal ((thr d i), .dma v327_r0.sem) 0
      ∗ semVal ((thr d i), .dma v327_r1.sem) 0
      ∗ owesW (F := F) (thr d i) O W ∗ MayWaits (thr d i) (none : HIx 1) O)
    ⊢ wp frame (wpE defs 𝒱 (thr d i) bd) Set.univ (cc1__sc_gather (F := F) i arg2 harg2 arg3 harg3 arg4 harg4 arg5 harg5 arg6 harg6 arg7 harg7 arg8 harg8 arg9 harg9 arg10 harg10 arg11 harg11 arg12 harg12 arg13 arg14 arg15 arg16 v327_r0 v327_r1)
      (fun _ => iprop(has (thr d i) fullShare (outAt arg5 i) (outVal (accBuf (accK Ls Cs 8)) Sc)
      ∗ hasAny (F := F) (thr d i) arg6
      ∗ hasAny (F := F) (thr d i) arg7
      ∗ hasAny (F := F) (thr d i) arg8
      ∗ hasAny (F := F) (thr d i) arg9
      ∗ hasAny (F := F) (thr d i) arg10
      ∗ hasAny (F := F) (thr d i) arg11
      ∗ hasAny (F := F) (thr d i) arg12
      ∗ semVal ((thr d i), .dma arg13.sem) 0
      ∗ semVal ((thr d i), .dma arg14.sem) 0
      ∗ semVal ((thr d i), .dma arg15.sem) 0
      ∗ semVal ((thr d i), .dma arg16.sem) 0
      ∗ semVal ((thr d i), .dma v327_r0.sem) 0
      ∗ semVal ((thr d i), .dma v327_r1.sem) 0
      ∗ owesW (F := F) (thr d i) O W)) := by
  rw [cc1__sc_gather_eq_skeleton]
  unfold cc1__sc_gather_skel
  iintro ⟨RL0, RL1, RL2, RL3, RL4, RL5, RL6, RL7, RC0, RC1, RC2, RC3, RC4, RC5, RC6, RC7, RS, RO, B6, B7, B8, B9, B10, B11, B12, S6, S7, S8, S9, X0, X1, HO, #Hmw⟩
  iapply (wp_then 𝒱 d i bd (wp_part17 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs Sc q O W hC)) $$ [RS B11 X0 RL0 B6 S6 RC0 B8 S8 RL1 B7 S7 RC1 B9 S9 HO]
  · isplitl [RS]; · iexact RS
    isplitl [B11]; · iexact B11
    isplitl [X0]; · iexact X0
    isplitl [RL0]; · iexact RL0
    isplitl [B6]; · iexact B6
    isplitl [S6]; · iexact S6
    isplitl [RC0]; · iexact RC0
    isplitl [B8]; · iexact B8
    isplitl [S8]; · iexact S8
    isplitl [RL1]; · iexact RL1
    isplitl [B7]; · iexact B7
    isplitl [S7]; · iexact S7
    isplitl [RC1]; · iexact RC1
    isplitl [B9]; · iexact B9
    isplitl [S9]; · iexact S9
    isplitl [HO]; · iexact HO
    iexact Hmw
  iintro ⟨B11, X0, B6, B8, B7, B9, HO⟩
  iapply (wp_then 𝒱 d i bd (wp_part18 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [B6 HO]
  · isplitl [B6]; · iexact B6
    isplitl [HO]; · iexact HO
    iexact Hmw
  iintro ⟨B6, S6, HO⟩
  iapply (wp_then 𝒱 d i bd (wp_part19 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [B8 B6 RL2 S6 RC2 B7 B9 RL3 HO]
  · isplitl [B8]; · iexact B8
    isplitl [B6]; · iexact B6
    isplitl [RL2]; · iexact RL2
    isplitl [S6]; · iexact S6
    isplitl [RC2]; · iexact RC2
    isplitl [B7]; · iexact B7
    isplitl [B9]; · iexact B9
    isplitl [RL3]; · iexact RL3
    isplitl [HO]; · iexact HO
    iexact Hmw
  iintro ⟨B8, B6, B7, B9, S9, HO⟩
  iapply (wp_then 𝒱 d i bd (wp_part20 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [RC3 B9 S9 B6 B8 RL4 RC4 B7 HO]
  · isplitl [RC3]; · iexact RC3
    isplitl [B9]; · iexact B9
    isplitl [S9]; · iexact S9
    isplitl [B6]; · iexact B6
    isplitl [B8]; · iexact B8
    isplitl [RL4]; · iexact RL4
    isplitl [RC4]; · iexact RC4
    isplitl [B7]; · iexact B7
    isplitl [HO]; · iexact HO
    iexact Hmw
  iintro ⟨B9, B6, B8, B7, S7, S9, HO⟩
  iapply (wp_then 𝒱 d i bd (wp_part21 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [RL5 B7 S7 RC5 B9 S9 B6 B8 RL6 RC6 HO]
  · isplitl [RL5]; · iexact RL5
    isplitl [B7]; · iexact B7
    isplitl [S7]; · iexact S7
    isplitl [RC5]; · iexact RC5
    isplitl [B9]; · iexact B9
    isplitl [S9]; · iexact S9
    isplitl [B6]; · iexact B6
    isplitl [B8]; · iexact B8
    isplitl [RL6]; · iexact RL6
    isplitl [RC6]; · iexact RC6
    isplitl [HO]; · iexact HO
    iexact Hmw
  iintro ⟨B7, B9, B6, B8, HO⟩
  iapply (wp_then 𝒱 d i bd (wp_part22 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [B7 B9 RL7 RC7 B6 B8 HO]
  · isplitl [B7]; · iexact B7
    isplitl [B9]; · iexact B9
    isplitl [RL7]; · iexact RL7
    isplitl [RC7]; · iexact RC7
    isplitl [B6]; · iexact B6
    isplitl [B8]; · iexact B8
    isplitl [HO]; · iexact HO
    iexact Hmw
  iintro ⟨B7, B9, B6, S6, B8, S8, HO⟩
  ihave B10 := (hasP_of_any (thr d i) arg10 (AccUpTo (accK Ls Cs 8) 0) (fun _ y hy => absurd hy (by omega))) $$ B10
  iapply (wp_then 𝒱 d i bd (wp_part23 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs q O W hC)) $$ [B10 B7 B9 HO]
  · isplitl [B10]; · iexact B10
    isplitl [B7]; · iexact B7
    isplitl [B9]; · iexact B9
    isplitl [HO]; · iexact HO
    iexact Hmw
  iintro ⟨B10, B7, S7, B9, S9, HO⟩
  ihave B12 := (hasP_of_any (thr d i) arg12 (OutUpTo (outVal (accBuf (accK Ls Cs 8)) Sc) 0) (fun _ y hy => absurd hy (by omega))) $$ B12
  iapply (wp_then 𝒱 d i bd (wp_part24 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs Sc)) $$ [B10 B11 B12]
  · isplitl [B10]; · iexact B10
    isplitl [B11]; · iexact B11
    iexact B12
  iintro ⟨B10, B11, B12⟩
  iapply (wp_then 𝒱 d i bd (wp_part25 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs Sc)) $$ [B10 B11 B12]
  · isplitl [B10]; · iexact B10
    isplitl [B11]; · iexact B11
    iexact B12
  iintro ⟨B10, B11, B12⟩
  iapply (wp_then 𝒱 d i bd (wp_part26 𝒱 d i bd arg2 harg2 arg3 harg3 arg4 harg4 arg5 harg5 arg6 harg6 arg7 harg7 arg8 harg8 arg9 harg9 arg10 harg10 arg11 harg11 arg12 harg12 arg13 arg14 arg15 arg16 v327_r0 v327_r1 Ls Cs Sc)) $$ [B10 B11 B12]
  · isplitl [B10]; · iexact B10
    isplitl [B11]; · iexact B11
    iexact B12
  iintro ⟨B10, B11, B12⟩
  iapply (wp_loadR 𝒱 (thr d i) bd (m := arg11)) $$ B11
  iintro B11
  iapply (wp_loadP 𝒱 (thr d i) bd (m := arg12) (P := OutUpTo (outVal (accBuf (accK Ls Cs 8)) Sc) 6)) $$ B12
  iintro %_ B12
  iapply (wp_storeP 𝒱 (thr d i) bd (m := arg12) (P := OutUpTo (outVal (accBuf (accK Ls Cs 8)) Sc) 6) (P' := OutUpTo (outVal (accBuf (accK Ls Cs 8)) Sc) 7) (fun L L' => out_step (accBuf (accK Ls Cs 8)) Sc 6 _ (ev 6) (od 6) (by decide) (ev_toNat 6 (by decide)) (od_toNat 6 (by decide)) (ev_lt 6 (by decide)) (od_lt 6 (by decide)) L L')) $$ B12
  iintro B12
  iapply (Entails.of_eq (wp_assume_of 𝒱 (thr d i) bd Set.univ (P := k1_chk143 (ev 7)) (ev_lt 7 (by decide))).symm)
  iapply (wp_gatherIdx 𝒱 (thr d i) bd (base := arg10) (idxs := ![ev 7]) (h := ev_lt 7 (by decide)) (hl := View.loads_vmem h_S256)) $$ B10
  iintro B10
  iapply (Entails.of_eq (wp_assume_of 𝒱 (thr d i) bd Set.univ (P := k1_chk144 (od 7)) (od_lt 7 (by decide))).symm)
  iapply (wp_gatherIdx 𝒱 (thr d i) bd (base := arg10) (idxs := ![od 7]) (h := od_lt 7 (by decide)) (hl := View.loads_vmem h_S256)) $$ B10
  iintro B10
  iapply (wp_loadR 𝒱 (thr d i) bd (m := arg11)) $$ B11
  iintro B11
  iapply (wp_loadP 𝒱 (thr d i) bd (m := arg12) (P := OutUpTo (outVal (accBuf (accK Ls Cs 8)) Sc) 7)) $$ B12
  iintro %_ B12
  iapply (wp_storeP 𝒱 (thr d i) bd (m := arg12) (P := OutUpTo (outVal (accBuf (accK Ls Cs 8)) Sc) 7) (P' := OutUpTo (outVal (accBuf (accK Ls Cs 8)) Sc) 8) (fun L L' => out_step (accBuf (accK Ls Cs 8)) Sc 7 _ (ev 7) (od 7) (by decide) (ev_toNat 7 (by decide)) (od_toNat 7 (by decide)) (ev_lt 7 (by decide)) (od_lt 7 (by decide)) L L')) $$ B12
  iintro B12
  ihave B12 := (has_of_hasP (thr d i) arg12 _ (outVal (accBuf (accK Ls Cs 8)) Sc) (out_full (outVal (accBuf (accK Ls Cs 8)) Sc))) $$ B12
  iapply (wp_start 𝒱 (thr d i) bd (q := fullShare) (src := arg12) (dst := outAt arg5 i) (sem := v327_r1.sem) (L := (outVal (accBuf (accK Ls Cs 8)) Sc)) (by decide)) $$ [B12 RO X1]
  · isplitl [B12]; · iexact B12
    isplitl [RO]; · iexact RO
    iexact X1
  iintro HF
  iapply (wp_await 𝒱 (thr d i) bd (sem := v327_r1.sem) (dstw := outAt arg5 i) (O := O) (W := W)) $$ [HF HO]
  · isplitl [HF]; · iexact HF
    isplitl [HO]; · iexact HO
    iexact Hmw
  iintro ⟨⟨RO, B12⟩, X1, HO⟩
  rw [wp_pure]
  imodintro
  isplitl [RO]; · iexact RO
  isplitl [B6]; · iapply (hasAny_of_has (thr d i) arg6 _) $$ B6
  isplitl [B7]; · iapply (hasAny_of_has (thr d i) arg7 _) $$ B7
  isplitl [B8]; · iapply (hasAny_of_has (thr d i) arg8 _) $$ B8
  isplitl [B9]; · iapply (hasAny_of_has (thr d i) arg9 _) $$ B9
  isplitl [B10]; · iapply (hasAny_of_has (thr d i) arg10 _) $$ B10
  isplitl [B11]; · iapply (hasAny_of_has (thr d i) arg11 _) $$ B11
  isplitl [B12]; · iapply (hasAny_of_has (thr d i) arg12 _) $$ B12
  isplitl [S6]; · iexact S6
  isplitl [S7]; · iexact S7
  isplitl [S8]; · iexact S8
  isplitl [S9]; · iexact S9
  isplitl [X0]; · iexact X0
  isplitl [X1]; · iexact X1
  iexact HO

end Cert.KernelIdeal.Hand
-- ==== Proof.ISpec.lean ====
module

public import proofs.«01_k».proof.Proof.ITile

@[expose] public section

noncomputable section

namespace Cert.KernelIdeal.Hand

open Cert.KernelIdeal Cert.KernelIdeal.Gen
open Idealize.ShloMosaic

variable {F : FTy → Type} [FloatOps F]

/-! ## What the SparseCore part computes -/

/-- The index with the given coordinates, each taken modulo its axis. -/
def ixN (s : Shape) (hs : ∀ a, 0 < s.size a) (v : Fin s.rank → Nat) : s.Idx := fun a => ⟨v a % s.size a, Nat.mod_lt _ (hs a)⟩

/-- An index is the one made of its coordinates. -/
theorem ixN_eq {s : Shape} {hs : ∀ a, 0 < s.size a} {v : Fin s.rank → Nat} {x : s.Idx} (h : ∀ a, (x a).val = v a) : ixN s hs v = x :=
  funext fun a => Fin.ext ((congrArg (· % s.size a) (h a).symm).trans (Nat.mod_eq_of_lt (x a).isLt))

/-- Row `k` of the table. -/
def rowOf (L8 : S8x32768.Idx → Elt F .f32) (k : Nat) : S32768.Idx → Elt F .f32 :=
  fun x => L8 (ixN S8x32768 (by decide) ![k, (x 0).val])

/-- Chunk `k` of the codes of subcore number `w`. -/
def codesOf (C8 : S8x64x8192.Idx → Elt F .i32) (w k : Nat) : S64x256.Idx → Elt F .i32 :=
  fun x => C8 (ixN S8x64x8192 (by decide) ![k, (x 0).val, 256 * w + (x 1).val])

/-- The scales of subcore number `w`. -/
def sclOf (S : S4096.Idx → Elt F .f32) (w : Nat) : S128.Idx → Elt F .f32 :=
  fun x => S (ixN S4096 (by decide) ![128 * w + (x 0).val])

/-- The 128 outputs of subcore number `w`. -/
def tileVal (L8 : S8x32768.Idx → Elt F .f32) (C8 : S8x64x8192.Idx → Elt F .i32) (S : S4096.Idx → Elt F .f32) (w : Nat) : S128.Idx → Elt F .f32 :=
  outVal (accBuf (accK (rowOf L8) (codesOf C8 w) 8)) (sclOf S w)

/-- The whole output: element `o` is computed by subcore number `o / 128`. -/
def result (L8 : S8x32768.Idx → Elt F .f32) (C8 : S8x64x8192.Idx → Elt F .i32) (S : S4096.Idx → Elt F .f32) : S4096.Idx → Elt F .f32 :=
  fun o => tileVal L8 C8 S ((o 0).val / 128) (ixN S128 (by decide) ![(o 0).val % 128])

/-- The number of the subcore at a grid position. -/
def wid (i : grid1.Coords) : Nat := 2 * (i 1).val + (i 0).val

theorem wid_lt (i : grid1.Coords) : wid i < 32 := by
  have h0 : (i 0).val < 2 := (i 0).isLt
  have h1 : (i 1).val < 16 := (i 1).isLt
  unfold wid; omega

/-! ## The kernel's slices read -/

/-- The table's row `r`, read through the kernel's slice. -/
theorem read_lutRow (r : Fin 8) (f : S8x32768.Idx → Elt F .f32) :
    (lutRow (Memref.whole main_v3_scv) r).view.read (Elt F) f = rowOf f r.val := by
  refine (Memref.read_squeeze_slice (Memref.whole main_v3_scv) _ _ squeezes_S1x32768_S32768 (show S1x32768.ShapeCasts S32768 by decide) f).trans ?_
  funext x
  rw [shapeCast_dropUnit_apply]
  refine congrArg f (ixN_eq fun a => ?_).symm
  fin_cases a
  · show r.val + 1 * 0 = r.val
    omega
  · show 0 + 1 * (x 0).val = (x 0).val
    omega

/-- A chunk of the codes, read through the kernel's slice. -/
theorem read_codAt (i : grid1.Coords) (k : Nat) (off : Fin 3 → Nat) (inb : ∀ a, off a + S1x64x256.size a ≤ S8x64x8192.size a)
    (h : off = ![k, 0, 512 * (i 1).val + 256 * (i 0).val]) (f : S8x64x8192.Idx → Elt F .i32) :
    (codAt (Memref.whole main_v4_scv) i off inb).view.read (Elt F) f = codesOf f (wid i) k := by
  subst h
  refine (Memref.read_squeeze_slice (Memref.whole main_v4_scv) _ _ squeezes_S1x64x256_S64x256 (show S1x64x256.ShapeCasts S64x256 by decide) f).trans ?_
  funext x
  rw [shapeCast_dropUnit_apply]
  refine congrArg f (ixN_eq fun a => ?_).symm
  fin_cases a
  · show k + 1 * 0 = k
    omega
  · show 0 + 1 * (x 0).val = (x 0).val
    omega
  · show (512 * (i 1).val + 256 * (i 0).val) + 1 * (x 1).val = 256 * wid i + (x 1).val
    unfold wid; omega

/-- The scales, read through the kernel's slice. -/
theorem read_sclAt (i : grid1.Coords) (f : S4096.Idx → Elt F .f32) :
    (sclAt (Memref.whole main_v5_scv) i).view.read (Elt F) f = sclOf f (wid i) := by
  funext x
  refine congrArg f (ixN_eq fun a => ?_).symm
  fin_cases a
  show k1_off3 i 0 + 1 * (x 0).val = 128 * wid i + (x 0).val
  rw [k1_off3_eq]
  show 256 * (i 1).val + 128 * (i 0).val + 1 * (x 0).val = _
  unfold wid; omega

/-- The output elements of subcore number `w`. -/
def tileSet (w : Nat) : Finset S4096.Idx := Finset.univ.filter fun y => (y 0).val / 128 = w

/-- The kernel's output slice is the subcore's elements. -/
theorem set_outAt (i : grid1.Coords) : (outAt (Memref.whole main_v6_scv) i).view.set = tileSet (wid i) := by
  show ((View.whole (main_v6_scv : Ref sig .scVector)).slice (Rect.unit (s := S4096) (k1_off138 i) S128.size (k1_off138_inb i))).set = _
  refine (View.set_slice_whole _ _).trans ?_
  ext y
  refine Rect.mem_set_unit.trans ?_
  have e : ∀ a, k1_off138 i a = 128 * wid i := by
    intro a; fin_cases a
    rw [k1_off138_eq]
    show 256 * (i 1).val + 128 * (i 0).val = _
    unfold wid; omega
  simp only [tileSet, Finset.mem_filter, Finset.mem_univ, true_and]
  constructor
  · intro h
    have h0 : k1_off138 i 0 ≤ (y 0).val ∧ (y 0).val < k1_off138 i 0 + 128 := h 0
    rw [e] at h0
    omega
  · intro h a
    obtain rfl : a = 0 := Subsingleton.elim (α := Fin 1) _ _
    show k1_off138 i 0 ≤ (y 0).val ∧ (y 0).val < k1_off138 i 0 + 128
    rw [e]
    omega

/-- Contents that read as the subcore's outputs through the kernel's slice are the result on its elements. -/
theorem outAt_result (i : grid1.Coords) (L8 : S8x32768.Idx → Elt F .f32) (C8 : S8x64x8192.Idx → Elt F .i32) (S f : S4096.Idx → Elt F .f32)
    (h : (outAt (Memref.whole main_v6_scv) i).view.read (Elt F) f = tileVal L8 C8 S (wid i)) :
    ∀ y ∈ tileSet (wid i), f y = result L8 C8 S y := by
  intro y hy
  have hy' : (y 0).val / 128 = wid i := (Finset.mem_filter.mp hy).2
  have hx := congrFun h (ixN S128 (by decide) ![(y 0).val % 128])
  unfold result
  rw [hy', ← hx]
  refine congrArg f (funext fun a => ?_)
  fin_cases a
  refine Fin.ext ?_
  show (y 0).val = k1_off138 i 0 + 1 * ((y 0).val % 128 % 128)
  rw [k1_off138_eq]
  show (y 0).val = 256 * (i 1).val + 128 * (i 0).val + 1 * ((y 0).val % 128 % 128)
  unfold wid at hy'
  omega

end Cert.KernelIdeal.Hand
-- ==== Proof.ILaunch.lean ====
module

public import proofs.«01_k».proof.Proof.ISpec
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev ΛP : Labels := Pipeline.Sig Λ₀ (Fin 1) fun p => (pcfgs (F := F) p).Adm
abbrev KC : SparseCore.Cfg τ sig (ΛP (F := F)) 1 := sc (F := F)
abbrev DP [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The layout facts of the launch. -/
theorem facts : (KC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' embedding. -/
abbrev EH : Emb UH (MT nD τ sig (HIx 1) (Elt F) ℕ UU ℕ) := embL

/-- The table, the codes, the scales and the output, as locations of device `d`. -/
abbrev lLoc (d : Dev nD) : Loc nD τ sig := (SparseCore.T d).loc main_v3
abbrev cLoc (d : Dev nD) : Loc nD τ sig := (SparseCore.T d).loc main_v4
abbrev sLoc (d : Dev nD) : Loc nD τ sig := (SparseCore.T d).loc main_v5
abbrev oLoc (d : Dev nD) : Loc nD τ sig := (SparseCore.T d).loc main_v6

variable (L8 : Dev nD → S8x32768.Idx → Elt F .f32) (C8 : Dev nD → S8x64x8192.Idx → Elt F .i32) (S5 : Dev nD → S4096.Idx → Elt F .f32)

/-- The three arrays every subcore reads, at the share `q`. -/
def readPts (q : PosShare TreeShare) (d : Dev nD) : sProp 𝕄 :=
  iprop((lLoc d ↦{q} (L8 d : Buf (Elt F) (lLoc d))) ∗ (cLoc d ↦{q} (C8 d : Buf (Elt F) (cLoc d))) ∗ (sLoc d ↦{q} (S5 d : Buf (Elt F) (sLoc d))))

/-- The output elements of SparseCore `c`. -/
def coreSet (c : Nat) : Finset S4096.Idx := Finset.univ.filter fun y => ((y 0).val / 128) % 2 = c

/-- The share of SparseCore `c`, and of its subcore `i`. -/
def coreShare (c : Nat) : PosShare TreeShare := shareTokN fullShare c
def tileShare (c i : Nat) : PosShare TreeShare := shareTokN (coreShare c) i

variable [FloatOps F]

/-- The output's elements `A` at the result. -/
def outPts (A : Finset S4096.Idx) (d : Dev nD) : sProp 𝕄 := oLoc d ↦[A]{fullShare} (result (L8 d) (C8 d) (S5 d) : Buf (Elt F) (oLoc d))

/-- The output's elements `A` at some contents. -/
def anyPts (A : Finset S4096.Idx) (d : Dev nD) : sProp 𝕄 := iprop(∃ f : Buf (Elt F) (oLoc d), oLoc d ↦[A]{fullShare} f)

instance readPts_storable (q : PosShare TreeShare) (d : Dev nD) : BI.Storable (upEmb : UEmb _ 𝕄) (readPts L8 C8 S5 q d) := by unfold readPts; infer_instance
instance outPts_storable (A : Finset S4096.Idx) (d : Dev nD) : BI.Storable (upEmb : UEmb _ 𝕄) (outPts L8 C8 S5 A d) := by unfold outPts; infer_instance
instance anyPts_storable (A : Finset S4096.Idx) (d : Dev nD) : BI.Storable (upEmb : UEmb _ 𝕄) (anyPts (F := F) A d) := by unfold anyPts; infer_instance

/-- What the handshakes carry: a share of what is read and the elements to write out, the elements written back. -/
def P : (KC (F := F)).Pay (nD := nD) (Val := Elt F) (Name := ℕ) (U := UU) where
  st := fun _ d c => iprop(readPts L8 C8 S5 (coreShare c.val) d ∗ anyPts (F := F) (coreSet c.val) d)
  dn := fun _ d c => outPts L8 C8 S5 (coreSet c.val) d
  go := fun _ d c i => iprop(readPts L8 C8 S5 (tileShare c.val i.val) d ∗ anyPts (F := F) (tileSet (2 * i.val + c.val)) d)
  td := fun _ d c i => outPts L8 C8 S5 (tileSet (2 * i.val + c.val)) d
  x := fun _ _ => iprop(emp)

instance P_storable : (P L8 C8 S5).IsStorable where
  st _ d c := (inferInstance : BI.Storable (upEmb : UEmb _ 𝕄) iprop(readPts L8 C8 S5 (coreShare c.val) d ∗ anyPts (F := F) (coreSet c.val) d))
  dn _ d c := (inferInstance : BI.Storable (upEmb : UEmb _ 𝕄) (outPts L8 C8 S5 (coreSet c.val) d))
  go _ d c i := (inferInstance : BI.Storable (upEmb : UEmb _ 𝕄) iprop(readPts L8 C8 S5 (tileShare c.val i.val) d ∗ anyPts (F := F) (tileSet (2 * i.val + c.val)) d))
  td _ d c i := (inferInstance : BI.Storable (upEmb : UEmb _ 𝕄) (outPts L8 C8 S5 (tileSet (2 * i.val + c.val)) d))

/-! ## The tile -/

/-- The scratch buffers of a subcore, and its semaphores. -/
def scratchRefs : Finset (Ref sig .scVector) := {cc1_scratch0, cc1_scratch1, cc1_scratch2, cc1_scratch3, cc1_scratch4, cc1_scratch5, cc1_scratch6}
def scratchSems : Finset (SemLoc sig) := {.dma cc1_scratch7.sem, .dma cc1_scratch8.sem, .dma cc1_scratch9.sem, .dma cc1_scratch10.sem, .dma cc1_scoped0.sem, .dma cc1_scoped1.sem}

omit [FloatOps F] in
/-- A subcore's own buffers are its scratch buffers and the rest. -/
theorem ownBufs_V (d : Dev nD) (c : Fin τ.nSC) (i : Fin τ.nSub) :
    (ownBufs (V d c i) : sProp 𝕄)
      = iprop((hasAny (F := F) (V d c i) (Memref.whole cc1_scratch0) ∗ hasAny (F := F) (V d c i) (Memref.whole cc1_scratch1) ∗ hasAny (F := F) (V d c i) (Memref.whole cc1_scratch2) ∗ hasAny (F := F) (V d c i) (Memref.whole cc1_scratch3) ∗ hasAny (F := F) (V d c i) (Memref.whole cc1_scratch4) ∗ hasAny (F := F) (V d c i) (Memref.whole cc1_scratch5) ∗ hasAny (F := F) (V d c i) (Memref.whole cc1_scratch6))
          ∗ bigSep ((ownRefs (τ := τ) (.scVector c i)) \ (scratchRefs.map ⟨(Proc.scVector c i).devRef, Proc.devRef_injective _⟩))
              fun b => iprop(∃ f, ((d, b) : Loc nD τ sig) ↦{fullShare} f)) := by
  unfold SparseCore.Cfg.ownBufs
  have hsub : scratchRefs.map ⟨(Proc.scVector c i).devRef, Proc.devRef_injective _⟩ ⊆ ownRefs (τ := τ) (sig := sig) (.scVector c i) := by
    intro b hb
    obtain ⟨r, hr, rfl⟩ := Finset.mem_map.mp hb
    refine SparseCore.Cfg.mem_ownRefs_of_owner (p := Proc.scVector c i) ?_
    simp only [scratchRefs, Finset.mem_insert, Finset.mem_singleton] at hr
    rcases hr with rfl | rfl | rfl | rfl | rfl | rfl | rfl <;> rfl
  refine (SparseCore.bigSep_sdiff_split' hsub).trans ?_
  refine congrArg₂ _ ?_ rfl
  rw [bigSep_map]
  unfold scratchRefs hasAny
  rw [SparseCore.bigSep_insert' (show cc1_scratch0 ∉ ({cc1_scratch1, cc1_scratch2, cc1_scratch3, cc1_scratch4, cc1_scratch5, cc1_scratch6} : Finset (Ref sig .scVector)) by decide), SparseCore.bigSep_insert' (show cc1_scratch1 ∉ ({cc1_scratch2, cc1_scratch3, cc1_scratch4, cc1_scratch5, cc1_scratch6} : Finset (Ref sig .scVector)) by decide), SparseCore.bigSep_insert' (show cc1_scratch2 ∉ ({cc1_scratch3, cc1_scratch4, cc1_scratch5, cc1_scratch6} : Finset (Ref sig .scVector)) by decide), SparseCore.bigSep_insert' (show cc1_scratch3 ∉ ({cc1_scratch4, cc1_scratch5, cc1_scratch6} : Finset (Ref sig .scVector)) by decide), SparseCore.bigSep_insert' (show cc1_scratch4 ∉ ({cc1_scratch5, cc1_scratch6} : Finset (Ref sig .scVector)) by decide), SparseCore.bigSep_insert' (show cc1_scratch5 ∉ ({cc1_scratch6} : Finset (Ref sig .scVector)) by decide), bigSep_singleton]
  simp only [Memref.view_whole, View.set_whole]
  rfl

/-- The semaphores the kernel uses are scoped. -/
theorem scratchSems_scoped : ∀ r ∈ scratchSems, r.isScoped .scVector = true := by unfold scratchSems; decide

omit [FloatOps F] in
/-- A subcore's own semaphores are those the kernel uses and the rest. -/
theorem ownSems0_V (d : Dev nD) (c : Fin τ.nSC) (i : Fin τ.nSub) :
    (ownSems0 (V d c i) : sProp 𝕄)
      = iprop((semVal ((V d c i), .dma cc1_scratch7.sem) 0 ∗ semVal ((V d c i), .dma cc1_scratch8.sem) 0 ∗ semVal ((V d c i), .dma cc1_scratch9.sem) 0 ∗ semVal ((V d c i), .dma cc1_scratch10.sem) 0 ∗ semVal ((V d c i), .dma cc1_scoped0.sem) 0 ∗ semVal ((V d c i), .dma cc1_scoped1.sem) 0)
          ∗ bigSep ((ownCells (V d c i)) \ (scratchSems.map ⟨fun s => ((V d c i, s) : GSem nD τ sig), fun _ _ e => (Prod.mk.inj e).2⟩))
              fun g => semVal g 0) := by
  unfold SparseCore.Cfg.ownSems0
  have hsub : scratchSems.map ⟨fun s => ((V d c i, s) : GSem nD τ sig), fun _ _ e => (Prod.mk.inj e).2⟩ ⊆ ownCells (V d c i) := by
    intro b hb
    obtain ⟨r, hr, rfl⟩ := Finset.mem_map.mp hb
    refine mem_ownCells.mpr ⟨rfl, ?_⟩
    show r.isScoped .scVector = true
    exact scratchSems_scoped r hr
  refine (SparseCore.bigSep_sdiff_split' hsub).trans ?_
  refine congrArg₂ _ ?_ rfl
  rw [bigSep_map]
  unfold scratchSems
  rw [SparseCore.bigSep_insert' (by decide), SparseCore.bigSep_insert' (by decide), SparseCore.bigSep_insert' (by decide), SparseCore.bigSep_insert' (by decide), SparseCore.bigSep_insert' (by decide), bigSep_singleton]
  rfl

section Pieces
variable {ℓ : Loc nD τ sig} (f : Buf (Elt F) ℓ) (q : PosShare TreeShare) (d : Dev nD) (i : grid1.Coords)

omit [FloatOps F] in
/-- A read share cut into eight. -/
theorem split8 : (ℓ ↦{q} f : sProp 𝕄) ⊢ iprop((ℓ ↦{shareTokN q 0} f) ∗ (ℓ ↦{shareTokN q 1} f) ∗ (ℓ ↦{shareTokN q 2} f) ∗ (ℓ ↦{shareTokN q 3} f) ∗ (ℓ ↦{shareTokN q 4} f) ∗ (ℓ ↦{shareTokN q 5} f) ∗ (ℓ ↦{shareTokN q 6} f) ∗ (ℓ ↦{shareTokN q 7} f)) := by
  refine (pointsTo_toks_split q 8).trans (sep_elim_right.trans ?_)
  rw [show (Finset.univ : Finset (Fin 8)) = {0, 1, 2, 3, 4, 5, 6, 7} by decide]
  rw [SparseCore.bigSep_insert' (show (0 : Fin 8) ∉ ({1, 2, 3, 4, 5, 6, 7} : Finset (Fin 8)) by decide), SparseCore.bigSep_insert' (show (1 : Fin 8) ∉ ({2, 3, 4, 5, 6, 7} : Finset (Fin 8)) by decide), SparseCore.bigSep_insert' (show (2 : Fin 8) ∉ ({3, 4, 5, 6, 7} : Finset (Fin 8)) by decide), SparseCore.bigSep_insert' (show (3 : Fin 8) ∉ ({4, 5, 6, 7} : Finset (Fin 8)) by decide), SparseCore.bigSep_insert' (show (4 : Fin 8) ∉ ({5, 6, 7} : Finset (Fin 8)) by decide), SparseCore.bigSep_insert' (show (5 : Fin 8) ∉ ({6, 7} : Finset (Fin 8)) by decide), SparseCore.bigSep_insert' (show (6 : Fin 8) ∉ ({7} : Finset (Fin 8)) by decide), bigSep_singleton]
  exact Entails.rfl

omit [FloatOps F] in
/-- A whole array at a share holds any part of it. -/
theorem has_part {sp : Space} {s : Shape} {e : EltTy} (m : Memref sig .scVector sp s e) (f : Buf (Elt F) (m.view.loc (thr d i))) (L : s.Idx → Elt F e)
    (h : m.view.read (Elt F) f = L) : (m.view.loc (thr d i) ↦{q} f : sProp 𝕄) ⊢ has (thr d i) q m L := by
  unfold has
  iintro H
  iexists f; isplitr; · ipureintro; exact h
  ihave H := ((pointsTo_split_subset (Finset.subset_univ m.view.set)).1.trans sep_elim_left) $$ H
  iexact H

/-- The table at a share holds a row of it. -/
theorem lut_has (L : S8x32768.Idx → Elt F .f32) (k : Fin 8) :
    (lLoc d ↦{q} (L : Buf (Elt F) (lLoc d)) : sProp 𝕄) ⊢ has (thr d i) q (lutRow (Memref.whole main_v3_scv) k) (rowOf L k.val) :=
  has_part q d i (lutRow (Memref.whole main_v3_scv) k) L (rowOf L k.val) (read_lutRow k L)

/-- The codes at a share hold a subcore's part of a chunk. -/
theorem cod_has (C : S8x64x8192.Idx → Elt F .i32) (k : Nat) (off : Fin 3 → Nat) (inb) (h : off = ![k, 0, 512 * (i 1).val + 256 * (i 0).val]) :
    (cLoc d ↦{q} (C : Buf (Elt F) (cLoc d)) : sProp 𝕄) ⊢ has (thr d i) q (codAt (Memref.whole main_v4_scv) i off inb) (codesOf C (wid i) k) :=
  has_part q d i (codAt (Memref.whole main_v4_scv) i off inb) C (codesOf C (wid i) k) (read_codAt i k off inb h C)

/-- The scales at a share hold a subcore's part. -/
theorem scl_has (S : S4096.Idx → Elt F .f32) :
    (sLoc d ↦{q} (S : Buf (Elt F) (sLoc d)) : sProp 𝕄) ⊢ has (thr d i) q (sclAt (Memref.whole main_v5_scv) i) (sclOf S (wid i)) :=
  has_part q d i (sclAt (Memref.whole main_v5_scv) i) S (sclOf S (wid i)) (read_sclAt i S)

/-- The eight rows of the table. -/
theorem lut_pieces (L : S8x32768.Idx → Elt F .f32) :
    (lLoc d ↦{q} (L : Buf (Elt F) (lLoc d)) : sProp 𝕄) ⊢ iprop(has (thr d i) (shareTokN q 0) (lutRow (Memref.whole main_v3_scv) 0) (rowOf L 0)
      ∗ has (thr d i) (shareTokN q 1) (lutRow (Memref.whole main_v3_scv) 1) (rowOf L 1)
      ∗ has (thr d i) (shareTokN q 2) (lutRow (Memref.whole main_v3_scv) 2) (rowOf L 2)
      ∗ has (thr d i) (shareTokN q 3) (lutRow (Memref.whole main_v3_scv) 3) (rowOf L 3)
      ∗ has (thr d i) (shareTokN q 4) (lutRow (Memref.whole main_v3_scv) 4) (rowOf L 4)
      ∗ has (thr d i) (shareTokN q 5) (lutRow (Memref.whole main_v3_scv) 5) (rowOf L 5)
      ∗ has (thr d i) (shareTokN q 6) (lutRow (Memref.whole main_v3_scv) 6) (rowOf L 6)
      ∗ has (thr d i) (shareTokN q 7) (lutRow (Memref.whole main_v3_scv) 7) (rowOf L 7)) := by
  iintro H
  ihave H := (split8 (F := F) (ℓ := lLoc d) L q) $$ H
  icases H with ⟨H0, H1, H2, H3, H4, H5, H6, H7⟩
  isplitl [H0]; · iapply (lut_has (shareTokN q 0) d i L 0) $$ H0
  isplitl [H1]; · iapply (lut_has (shareTokN q 1) d i L 1) $$ H1
  isplitl [H2]; · iapply (lut_has (shareTokN q 2) d i L 2) $$ H2
  isplitl [H3]; · iapply (lut_has (shareTokN q 3) d i L 3) $$ H3
  isplitl [H4]; · iapply (lut_has (shareTokN q 4) d i L 4) $$ H4
  isplitl [H5]; · iapply (lut_has (shareTokN q 5) d i L 5) $$ H5
  isplitl [H6]; · iapply (lut_has (shareTokN q 6) d i L 6) $$ H6
  iapply (lut_has (shareTokN q 7) d i L 7) $$ H7

/-- The eight chunks of the codes. -/
theorem cod_pieces (C : S8x64x8192.Idx → Elt F .i32) :
    (cLoc d ↦{q} (C : Buf (Elt F) (cLoc d)) : sProp 𝕄) ⊢ iprop(has (thr d i) (shareTokN q 0) (codAt (Memref.whole main_v4_scv) i (k1_off1 i) (k1_off1_inb i)) (codesOf C (wid i) 0)
      ∗ has (thr d i) (shareTokN q 1) (codAt (Memref.whole main_v4_scv) i (k1_off2 i) (k1_off2_inb i)) (codesOf C (wid i) 1)
      ∗ has (thr d i) (shareTokN q 2) (codAt (Memref.whole main_v4_scv) i (k1_off20 i) (k1_off20_inb i)) (codesOf C (wid i) 2)
      ∗ has (thr d i) (shareTokN q 3) (codAt (Memref.whole main_v4_scv) i (k1_off37 i) (k1_off37_inb i)) (codesOf C (wid i) 3)
      ∗ has (thr d i) (shareTokN q 4) (codAt (Memref.whole main_v4_scv) i (k1_off54 i) (k1_off54_inb i)) (codesOf C (wid i) 4)
      ∗ has (thr d i) (shareTokN q 5) (codAt (Memref.whole main_v4_scv) i (k1_off71 i) (k1_off71_inb i)) (codesOf C (wid i) 5)
      ∗ has (thr d i) (shareTokN q 6) (codAt (Memref.whole main_v4_scv) i (k1_off88 i) (k1_off88_inb i)) (codesOf C (wid i) 6)
      ∗ has (thr d i) (shareTokN q 7) (codAt (Memref.whole main_v4_scv) i (k1_off105 i) (k1_off105_inb i)) (codesOf C (wid i) 7)) := by
  iintro H
  ihave H := (split8 (F := F) (ℓ := cLoc d) C q) $$ H
  icases H with ⟨H0, H1, H2, H3, H4, H5, H6, H7⟩
  isplitl [H0]; · iapply (cod_has (shareTokN q 0) d i C 0 (k1_off1 i) (k1_off1_inb i) (k1_off1_eq i)) $$ H0
  isplitl [H1]; · iapply (cod_has (shareTokN q 1) d i C 1 (k1_off2 i) (k1_off2_inb i) (k1_off2_eq i)) $$ H1
  isplitl [H2]; · iapply (cod_has (shareTokN q 2) d i C 2 (k1_off20 i) (k1_off20_inb i) (k1_off20_eq i)) $$ H2
  isplitl [H3]; · iapply (cod_has (shareTokN q 3) d i C 3 (k1_off37 i) (k1_off37_inb i) (k1_off37_eq i)) $$ H3
  isplitl [H4]; · iapply (cod_has (shareTokN q 4) d i C 4 (k1_off54 i) (k1_off54_inb i) (k1_off54_eq i)) $$ H4
  isplitl [H5]; · iapply (cod_has (shareTokN q 5) d i C 5 (k1_off71 i) (k1_off71_inb i) (k1_off71_eq i)) $$ H5
  isplitl [H6]; · iapply (cod_has (shareTokN q 6) d i C 6 (k1_off88 i) (k1_off88_inb i) (k1_off88_eq i)) $$ H6
  iapply (cod_has (shareTokN q 7) d i C 7 (k1_off105 i) (k1_off105_inb i) (k1_off105_eq i)) $$ H7

end Pieces

/-- The codes of a subcore are below 256 when all are. -/
theorem codesOf_ok (C : S8x64x8192.Idx → Elt F .i32) (h : ∀ x, (C x : BitVec 32).toNat < 256) (w k : Nat) : CodesOK (codesOf (F := F) C w k) :=
  fun _ => h _

/-- The task on a vector subcore: from its share of what is read and its output elements, the output elements at the result. -/
theorem tile_body (d : Dev nD) (i : grid1.Coords) (hF : (KC (F := F)).Facts) (hC : ∀ d x, (C8 d x : BitVec 32).toNat < 256)
    (O : CellTallies nD τ sig (HIx 1)) (W : Waits sig (HIx 1)) (hO : ∀ g, O g none = 0) (q : PosShare TreeShare) :
    iprop(levAts (KC (F := F)).L (KC (F := F)).lev ∗ emp ∗ (readPts L8 C8 S5 q d ∗ anyPts (F := F) (tileSet (wid i)) d)
        ∗ scopedBufs (thr d i) ∗ scopedSems0 (thr d i) ∗ owes (thr d i) O W)
      ⊢ wp frame (wpE (defs₀ (F := F)) 𝒱₀ (thr d i) none) Set.univ
          (cc1__sc_gather (F := F) i (Memref.whole main_v3_scv) (Memref.isWhole_whole _) (Memref.whole main_v4_scv) (Memref.isWhole_whole _) (Memref.whole main_v5_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 cc1_scoped1)
          fun _ => iprop(outPts L8 C8 S5 (tileSet (wid i)) d ∗ scopedBufs (thr d i) ∗ scopedSems0 (thr d i)
            ∗ ∃ W', ⌜∀ p ∈ W', p ∈ W ∨ p.2 = none ∨ p.2 = some (0 : Fin 1)⌝ ∗ owes (thr d i) O W') := by
  rw [(KC (F := F)).scopedBufs_V hF d _ _, SparseCore.Cfg.scopedSems0_V (Val := Elt F) d _ _, ownSems0_V, ownBufs_V]
  unfold readPts
  iintro ⟨#Hlv, -, ⟨⟨HL, HC, HS⟩, Hout⟩, ⟨⟨B0, B1, B2, B3, B4, B5, B6⟩, Hbufs⟩, ⟨⟨X0, X1, X2, X3, X4, X5⟩, Hsems⟩, HO⟩
  ihave Hmw := ((KC (F := F)).mayWaits_none (thr := thr d i) hO) $$ Hlv
  ihave HL := (lut_pieces q d i (L8 d)) $$ HL
  icases HL with ⟨L0, L1, L2, L3, L4, L5, L6, L7⟩
  ihave HC := (cod_pieces q d i (C8 d)) $$ HC
  icases HC with ⟨C0, C1, C2, C3, C4, C5, C6, C7⟩
  ihave HS := (split8 (F := F) (ℓ := sLoc d) (S5 d) q) $$ HS
  icases HS with ⟨HS, -⟩
  ihave HS := (scl_has (shareTokN q 0) d i (S5 d)) $$ HS
  iapply (wp_wand frame) $$ [L0 L1 L2 L3 L4 L5 L6 L7 C0 C1 C2 C3 C4 C5 C6 C7 HS Hout B0 B1 B2 B3 B4 B5 B6 X0 X1 X2 X3 X4 X5 HO Hmw]
  · iapply (wp_tile (defs := defs₀ (F := F)) 𝒱₀ d i none (Memref.whole main_v3_scv) (Memref.isWhole_whole _) (Memref.whole main_v4_scv) (Memref.isWhole_whole _) (Memref.whole main_v5_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 cc1_scoped1 (rowOf (L8 d)) (codesOf (C8 d) (wid i)) (sclOf (S5 d) (wid i)) (shareTokN q) O W
      (fun k => codesOf_ok (C8 d) (hC d) (wid i) k))
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [HS]; · iexact HS
    isplitl [Hout]
    · unfold anyPts hasAny
      icases Hout with ⟨%f, Hout⟩
      iexists f
      rw [set_outAt]
      iexact Hout
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [X0]; · iexact X0
    isplitl [X1]; · iexact X1
    isplitl [X2]; · iexact X2
    isplitl [X3]; · iexact X3
    isplitl [X4]; · iexact X4
    isplitl [X5]; · iexact X5
    isplitl [HO]
    · unfold owesW
      iexists W; isplitr; · ipureintro; exact fun p hp => .inl hp
      iexact HO
    iexact Hmw
  iintro %r ⟨Hout, B0, B1, B2, B3, B4, B5, B6, X0, X1, X2, X3, X4, X5, HO⟩
  isplitl [Hout]
  · unfold has outPts
    icases Hout with ⟨%f, %hf, Hout⟩
    rw [set_outAt]
    rw [← pointsTo_congr (ℓ := oLoc d) (outAt_result i (L8 d) (C8 d) (S5 d) f hf)]
    iexact Hout
  isplitl [B0 B1 B2 B3 B4 B5 B6 Hbufs]
  · isplitr [Hbufs]
    · isplitl [B0]; · iexact B0
      isplitl [B1]; · iexact B1
      isplitl [B2]; · iexact B2
      isplitl [B3]; · iexact B3
      isplitl [B4]; · iexact B4
      isplitl [B5]; · iexact B5
      iexact B6
    iexact Hbufs
  isplitl [X0 X1 X2 X3 X4 X5 Hsems]
  · isplitr [Hsems]
    · isplitl [X0]; · iexact X0
      isplitl [X1]; · iexact X1
      isplitl [X2]; · iexact X2
      isplitl [X3]; · iexact X3
      isplitl [X4]; · iexact X4
      iexact X5
    iexact Hsems
  unfold owesW
  icases HO with ⟨%W', %hW, HO⟩
  iexists W'; isplitr
  · ipureintro; exact fun p hp => (hW p hp).imp_right Or.inl
  iexact HO

/-- The grid position of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- What a vector subcore runs. -/
theorem defs₀_vector (c : Fin τ.nSC) (s : Fin τ.nSub) :
    defs₀ (F := F) (.scVector c s) 1 ()
      = SparseCore.onTile hcore1 hsub1 (fun c s => cc1__sc_gather (F := F) (coordsV c s) (Memref.whole main_v3_scv) (Memref.isWhole_whole _) (Memref.whole main_v4_scv) (Memref.isWhole_whole _) (Memref.whole main_v5_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 cc1_scoped1) ⟨⟩ c s := rfl

/-- The launch's obligation for the tasks. -/
theorem tileObl (hF : (KC (F := F)).Facts) (hC : ∀ d x, (C8 d x : BitVec 32).toNat < 256) :
    (KC (F := F)).TileObl (DP (F := F)) 𝒱 (P L8 C8 S5) v₀ 0 := by
  intro d c i O W hO _ _
  simp only [show (P L8 C8 S5).ox = fun _ _ => 0 from rfl, add_zero]
  change _ ⊢ wp _ _ _ (Pipeline.liftProg (defs₀ (F := F) (.scVector ((KC (F := F)).core 0 c) ((KC (F := F)).sub 0 i)) 1 ())) _
  refine BI.Entails.trans ?_ (Pipeline.wp_liftProg (DP (F := F)) (Pipeline.defs_kernel pcfgs defs₀) 𝒱₀ _ Set.univ none _ _)
  have hc : ((KC (F := F)).core 0 c).val < grid1.bound 0 ∧ ((KC (F := F)).sub 0 i).val < grid1.bound 1 := ⟨c.isLt, i.isLt⟩
  rw [defs₀_vector]; simp only [SparseCore.onTile, hc, and_self, ↓reduceDIte]
  have h := tile_body L8 C8 S5 d (coordsV ⟨_, hc.1⟩ ⟨_, hc.2⟩) hF hC O W hO (tileShare c.val i.val)
  exact h

/-! ## How a call's operands split -/

theorem tileSets_disjoint (c : Nat) : ∀ i ∈ (Finset.univ : Finset (Fin 16)), ∀ j ∈ (Finset.univ : Finset (Fin 16)), i ≠ j →
    Disjoint (tileSet (2 * i.val + c)) (tileSet (2 * j.val + c)) := by
  intro i _ j _ hij
  refine Finset.disjoint_left.mpr fun y hy hy' => hij (Fin.ext ?_)
  have h1 := (Finset.mem_filter.mp hy).2
  have h2 := (Finset.mem_filter.mp hy').2
  omega

theorem tileSets_cover (c : Nat) (hc : c < 2) : (Finset.univ : Finset (Fin 16)).biUnion (fun i => tileSet (2 * i.val + c)) = coreSet c := by
  ext y
  have hy : (y 0).val < 4096 := (y 0).isLt
  simp only [Finset.mem_biUnion, Finset.mem_univ, true_and, tileSet, coreSet, Finset.mem_filter]
  constructor
  · rintro ⟨i, hi⟩; omega
  · intro h
    exact ⟨⟨(y 0).val / 128 / 2, by omega⟩, by show (y 0).val / 128 = 2 * ((y 0).val / 128 / 2) + c; omega⟩

theorem coreSets_disjoint : ∀ i ∈ (Finset.univ : Finset (Fin 2)), ∀ j ∈ (Finset.univ : Finset (Fin 2)), i ≠ j →
    Disjoint (coreSet i.val) (coreSet j.val) := by
  intro i _ j _ hij
  refine Finset.disjoint_left.mpr fun y hy hy' => hij (Fin.ext ?_)
  have h1 := (Finset.mem_filter.mp hy).2
  have h2 := (Finset.mem_filter.mp hy').2
  omega

theorem coreSets_cover : (Finset.univ : Finset (Fin 2)).biUnion (fun i => coreSet i.val) = Finset.univ := by
  ext y
  simp only [Finset.mem_biUnion, Finset.mem_univ, true_and, coreSet, Finset.mem_filter, iff_true]
  exact ⟨⟨(y 0).val / 128 % 2, Nat.mod_lt _ (by decide)⟩, rfl⟩

omit [FloatOps F] in
/-- The three read arrays at a share, cut into `n` shares. -/
theorem readPts_split (q : PosShare TreeShare) (d : Dev nD) (n : Nat) :
    readPts L8 C8 S5 q d ⊢ bigSep Finset.univ fun i : Fin n => readPts L8 C8 S5 (shareTokN q i.val) d := by
  unfold readPts
  rw [bigSep_sep', bigSep_sep']
  iintro ⟨HL, HC, HS⟩
  isplitl [HL]; · iapply ((pointsTo_toks_split q n).trans sep_elim_right) $$ HL
  isplitl [HC]; · iapply ((pointsTo_toks_split q n).trans sep_elim_right) $$ HC
  iapply ((pointsTo_toks_split q n).trans sep_elim_right) $$ HS

omit [FloatOps F] in
/-- The output's elements at some contents, cut along a disjoint family. -/
theorem anyPts_split {n : Nat} (d : Dev nD) (A : Finset S4096.Idx) (B : Fin n → Finset S4096.Idx)
    (hd : ∀ i ∈ (Finset.univ : Finset (Fin n)), ∀ j ∈ (Finset.univ : Finset (Fin n)), i ≠ j → Disjoint (B i) (B j)) (hA : Finset.univ.biUnion B = A) :
    anyPts (F := F) A d ⊢ bigSep Finset.univ fun i : Fin n => anyPts (F := F) (B i) d := by
  unfold anyPts
  iintro ⟨%f, H⟩
  rw [← hA]
  ihave H := (Entails.of_eq (pointsTo_biUnion (ℓ := oLoc d) Finset.univ B hd)) $$ H
  have h1 : ∀ i, (oLoc d ↦[B i]{fullShare} f : sProp 𝕄) ⊢ iprop(∃ f : Buf (Elt F) (oLoc d), oLoc d ↦[B i]{fullShare} f) := fun i => by
    iintro H; iexists f; iexact H
  have h : (bigSep Finset.univ fun i : Fin n => (oLoc d ↦[B i]{fullShare} f : sProp 𝕄))
      ⊢ bigSep Finset.univ fun i : Fin n => iprop(∃ f : Buf (Elt F) (oLoc d), oLoc d ↦[B i]{fullShare} f) :=
    bigSep_mono (s := Finset.univ) fun (i : Fin n) _ => h1 i
  iapply h $$ H

/-- The output's elements at the result are a disjoint family's. -/
theorem outPts_join {n : Nat} (d : Dev nD) (A : Finset S4096.Idx) (B : Fin n → Finset S4096.Idx)
    (hd : ∀ i ∈ (Finset.univ : Finset (Fin n)), ∀ j ∈ (Finset.univ : Finset (Fin n)), i ≠ j → Disjoint (B i) (B j)) (hA : Finset.univ.biUnion B = A) :
    (bigSep Finset.univ fun i : Fin n => outPts L8 C8 S5 (B i) d) ⊢ outPts L8 C8 S5 A d := by
  unfold outPts
  rw [← hA]
  exact Entails.of_eq (pointsTo_biUnion (ℓ := oLoc d) Finset.univ B hd).symm

/-- A SparseCore's operands split into its subcores', and its results join from theirs. -/
theorem vecSplit : (KC (F := F)).VecSplit' (P L8 C8 S5) 0 := by
  intro d c
  show iprop(readPts L8 C8 S5 (coreShare c.val) d ∗ anyPts (F := F) (coreSet c.val) d) ⊢ |={Set.univ}=> iprop(
      (bigSep Finset.univ fun i : Fin 16 => iprop(readPts L8 C8 S5 (tileShare c.val i.val) d ∗ anyPts (F := F) (tileSet (2 * i.val + c.val)) d))
      ∗ ((bigSep Finset.univ fun i : Fin 16 => outPts L8 C8 S5 (tileSet (2 * i.val + c.val)) d) -∗ outPts L8 C8 S5 (coreSet c.val) d))
  have hc : c.val < 2 := c.isLt
  rw [bigSep_sep']
  iintro ⟨HR, HA⟩; imodintro
  isplitl [HR HA]
  · isplitl [HR]
    · iapply (readPts_split L8 C8 S5 (coreShare c.val) d 16) $$ HR
    · iapply (anyPts_split d _ (fun i : Fin 16 => tileSet (2 * i.val + c.val)) (tileSets_disjoint c.val) (tileSets_cover c.val hc)) $$ HA
  iintro H
  iapply (outPts_join L8 C8 S5 d _ (fun i : Fin 16 => tileSet (2 * i.val + c.val)) (tileSets_disjoint c.val) (tileSets_cover c.val hc)) $$ H

end Cert.KernelIdeal.Hand
-- ==== Proof.IRegion.lean ====
module

public import proofs.«01_k».proof.Proof.ILaunch
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.ValueKit
public import Idealize.ShloMosaic.Lib.VecWindow

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-- The staging rounds' embedding. -/
def EP : Emb (UR sig nD τ) (MT nD τ sig (HIx 1) (Elt F) ℕ UU ℕ) := (Emb.inl : Emb (UR sig nD τ) (UR sig nD τ × Counters)).trans embR
instance EP_landsIn : (EP : Emb (UR sig nD τ) 𝕄).LandsIn (upEmb : UEmb _ 𝕄) := by unfold EP; infer_instance

variable [FloatOps F]

/-- What the region leaves in its result: the product of the inputs' rows with the codebooks' rows. -/
def lutMM (A B : S512x8.Idx → Elt F .f32) : S512x512.Idx → Elt F .f32 := k0_pay1 A B

/-- A staging buffer of core `c` held whole at `f`. -/
abbrev stgPt (c : Dev nD) {sp : Space} {S : Shape} {e : EltTy} (M : Memref sig .tc sp S e) (f : Buf (Elt F) (M.view.loc (c : Thread nD τ))) : sProp 𝕄 :=
  M.view.loc (c : Thread nD τ) ↦{fullShare} f

omit [FloatOps F] in
/-- A whole buffer stored over whole holds the payload. -/
theorem whole_stored (b : Ref sig .tc) (f : b.ty.Contents (Elt F)) {off : Fin b.ty.shape.rank → ℕ} (inb : ∀ a, off a + b.ty.shape.size a ≤ b.ty.shape.size a)
    (w : b.ty.Contents (Elt F)) : (Memref.whole b).view.writes (Elt F) f [⟨Rect.unit off b.ty.shape.size inb, w⟩] = w := by
  have h := View.read_writes_full (Memref.whole b).view f inb w []
  simpa only [Memref.view_whole, View.read_whole] using h

omit [FloatOps F] in
/-- A whole buffer loaded whole reads its contents. -/
theorem whole_loaded (b : Ref sig .tc) (f : b.ty.Contents (Elt F)) {off : Fin b.ty.shape.rank → ℕ} (inb : ∀ a, off a + b.ty.shape.size a ≤ b.ty.shape.size a) :
    (Memref.whole b).view.readAt (Elt F) (Rect.unit off b.ty.shape.size inb).toLoadRect f = f := by
  have h := View.readAt_full (Memref.whole b).view f inb
  simpa only [Memref.view_whole, View.read_whole] using h

/-- What the body's one store leaves: the product. -/
theorem stg_stored (A B : S512x8.Idx → Elt F .f32) (f2) :
    (Memref.whole cc0_stg2_0).view.writes (Elt F) f2
      [⟨Rect.unit ![0, 0] S512x512.size inb_S512x512_S512x512_0_0,
          k0_pay1 (View.readAt (Elt F) (Memref.whole cc0_stg0_0).view (Rect.unit ![0, 0] S512x8.size inb_S512x8_S512x8_0_0).toLoadRect A)
            (View.readAt (Elt F) (Memref.whole cc0_stg1_0).view (Rect.unit ![0, 0] S512x8.size inb_S512x8_S512x8_0_0).toLoadRect B)⟩] = lutMM A B := by
  have hA : View.readAt (Elt F) (Memref.whole cc0_stg0_0).view (Rect.unit ![0, 0] S512x8.size inb_S512x8_S512x8_0_0).toLoadRect A = A :=
    whole_loaded cc0_stg0_0 A inb_S512x8_S512x8_0_0
  have hB : View.readAt (Elt F) (Memref.whole cc0_stg1_0).view (Rect.unit ![0, 0] S512x8.size inb_S512x8_S512x8_0_0).toLoadRect B = B :=
    whole_loaded cc0_stg1_0 B inb_S512x8_S512x8_0_0
  rw [hA, hB]
  unfold lutMM
  generalize k0_pay1 A B = w
  exact whole_stored cc0_stg2_0 f2 inb_S512x512_S512x512_0_0 w

/-- The TensorCore's body from its three staging buffers: the result's is left at the product. -/
theorem lutRun (c : Dev nD) (A B : S512x8.Idx → Elt F .f32) (f2) (Q : PUnit → sProp 𝕄) :
    iprop(stgPt c (Memref.whole cc0_stg0_0) A ∗ stgPt c (Memref.whole cc0_stg1_0) B ∗ stgPt c (Memref.whole cc0_stg2_0) f2 ∗ (iprop(stgPt c (Memref.whole cc0_stg0_0) A ∗ stgPt c (Memref.whole cc0_stg1_0) B ∗ stgPt c (Memref.whole cc0_stg2_0) (lutMM A B)) -∗ Q ⟨⟩))
      ⊢ wp frame (wpE (defs₀ (F := F)) 𝒱₀ (c : Thread nD τ) none) Set.univ
        (cc0__lut_body (F := F) (Memref.whole cc0_stg0_0) (Memref.isWhole_whole _) (Memref.whole cc0_stg1_0) (Memref.isWhole_whole _) (Memref.whole cc0_stg2_0) (Memref.isWhole_whole _)) Q := by
  iintro ⟨H0, H1, H2, Hk⟩
  simp only [cc0__lut_body_eq_skeleton]; unfold cc0__lut_body_skel
  sl_exec
  sl_step
  rw [stg_stored]
  iapply Hk
  isplitl [H0]; · iexact H0
  isplitl [H1]; · iexact H1
  iexact H2

/-! ## The region's proof data -/

/-- The contents of the TensorCore's arrays. -/
abbrev Conts (F : FTy → Type) : Type := (b : Ref sig .tc) → b.ty.Contents (Elt F)

variable (W : Dev nD → Conts F)

/-- The contents after the region: its result at the product. -/
def afterMM (W : Conts F) : Conts F := Function.update W main_v2 (lutMM (W main_v0) (W main_v1))

/-- The region's data: the arrays as they stand; after the body the two inputs as they were, the result at the product. The
    core owes the start of the SparseCores throughout. -/
def dat0 (c : Dev nD) : Pipeline.Dat τ (Elt F) (HIx 1) ℕ UU ℕ cfg0 c where
  A w := W c (Pipeline.arrRef spec0 w)
  after w _ := match w with
    | ⟨0, _⟩ => W c main_v0
    | ⟨1, _⟩ => W c main_v1
    | ⟨2, _⟩ => lutMM (W c main_v0) (W c main_v1)
  Φ _ := iprop(emp)
  q _ := fullShare
  owed _ := (KC (F := F)).Otc d 0
  recorded _ := {p | (KC (F := F)).lev (SparseCore.T c, p.1) p.2 ≤ 0}
where d := c

/-- The region's pipeline admitted. -/
abbrev adm : (p : Fin 1) → (pcfgs (F := F) p).Adm := fun p => (cfgs p).toPCfg_adm

/-- The data, for every region of the program: there is one. -/
def pdats : (p : Fin 1) → (c : Dev nD) → Pipeline.Dat τ (Elt F) (HIx 1) ℕ UU ℕ (Pipeline.pin (pcfgs (F := F)) adm p) c
  | 0 => dat0 W

/-! ## The body -/

/-- Every window's one block is at the origin. -/
theorem win_index : ∀ t : Fin cfg0.N, win0_0.index t = ![0, 0] ∧ win0_1.index t = ![0, 0] ∧ win0_2.index t = ![0, 0] :=
  (by decide +kernel : ∀ t : Fin grid0.N, _)

/-- The first input's one block is the input. -/
theorem blk_A (c : Dev nD) : ((cfg0.win 0).blk t0_0).view.read (Elt F) (W c main_v0) = W c main_v0 := by
  blk_ext! [win_index t0_0]

/-- The second input's one block is the input. -/
theorem blk_B (c : Dev nD) : ((cfg0.win 1).blk t0_0).view.read (Elt F) (W c main_v1) = W c main_v1 := by
  blk_ext! [win_index t0_0]

theorem before_A (c : Dev nD) (d : (cfg0.win 0).block.Idx → Elt F (cfg0.win 0).elt) : (dat0 W c).before 0 t0_0 d = W c main_v0 := by
  unfold Pipeline.Dat.before; rw [if_pos (by decide)]; exact Eq.trans rfl (blk_A W c)

theorem before_B (c : Dev nD) (d : (cfg0.win 1).block.Idx → Elt F (cfg0.win 1).elt) : (dat0 W c).before 1 t0_0 d = W c main_v1 := by
  unfold Pipeline.Dat.before; rw [if_pos (by decide)]; exact Eq.trans rfl (blk_B W c)

omit [FloatOps F] in
/-- A whole buffer owned at contents is the buffer held at them. -/
theorem owns_whole (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The body on core `c`, as the region asks it. -/
theorem body_obligation (c : Dev nD) : Pipeline.BodyObligation (dat0 W c) (defs₀ (F := F)) 𝒱₀ (none : HIx 1) Set.univ := fun t => by
  obtain rfl := fin_N0 t
  rw [bigSep_W0, bigSep_W0]
  simp only [owns_whole]
  rw [show (dat0 W c).Φ t0_0.castSucc = iprop(emp) from rfl, show (dat0 W c).Φ t0_0.succ = iprop(emp) from rfl,
    show (dat0 W c).owesAt none t0_0.succ = (dat0 W c).owesAt none t0_0.castSucc from rfl]
  iintro ⟨-, HO, ⟨%d0, %f0, %hf0, H0⟩, ⟨%d1, %f1, %hf1, H1⟩, ⟨%d2, %f2, %hf2, H2⟩⟩
  rw [before_A] at hf0
  rw [before_B] at hf1
  subst hf0
  subst hf1
  iapply (lutRun c (W c main_v0) (W c main_v1) f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; dsimp only [dat0]
  isplitl [H1]
  · iexists _; isplitr; swap; (· iexact H1); ipureintro; dsimp only [dat0]
  iexists _; isplitr; swap; (· iexact H2); ipureintro; dsimp only [dat0]

/-! ## The waits -/

/-- The TensorCore owes nothing at the index the pipeline waits at. -/
theorem Otc_none (d : Dev nD) (g : GSem nD τ sig) : (KC (F := F)).Otc d 0 g none = 0 := by
  by_contra h
  have h1 := (KC (F := F)).lev_of_Otc_pos (Nat.pos_of_ne_zero h)
  simp only [SparseCore.Cfg.lev_none] at h1
  omega

/-! ## The arrays -/

/-- The region's three arrays held. -/
theorem arrays_eq (c : Dev nD) (Fa) : ((pdats W 0 c).arrays Fa : sProp 𝕄)
    = iprop((((c : Thread nD τ).loc main_v0) ↦{fullShare} Fa 0) ∗ (((c : Thread nD τ).loc main_v1) ↦{fullShare} Fa 1) ∗ (((c : Thread nD τ).loc main_v2) ↦{fullShare} Fa 2)) := by
  rw [Pipeline.arrays_eq (Pipeline.pin (pcfgs (F := F)) adm) (pdats W) 0 c launch0.arr_whole ((pdats W 0 c).share_full fun _ => rfl) Fa, bigSep_W0]

theorem arrAt_v0 (c : Dev nD) : (pdats W 0 c).arrAt 0 (Pipeline.pin (pcfgs (F := F)) adm 0).N = W c main_v0 := (dat0 W c).arrAt_in 0 rfl _
theorem arrAt_v1 (c : Dev nD) : (pdats W 0 c).arrAt 1 (Pipeline.pin (pcfgs (F := F)) adm 0).N = W c main_v1 := (dat0 W c).arrAt_in 1 rfl _

theorem arrAt_v2 (c : Dev nD) : (pdats W 0 c).arrAt 2 (Pipeline.pin (pcfgs (F := F)) adm 0).N = lutMM (W c main_v0) (W c main_v1) := by
  show (dat0 W c).arrAt 2 cfg0.N = _
  refine (dat0 W c).arrAt_eq_of_after_last 2 t0_0 (by decide +kernel) (lutMM (W c main_v0) (W c main_v1)) fun j => ?_
  dsimp only [dat0]
  blk_simp

omit [FloatOps F] in
/-- The TensorCore's arrays held at contents, one by one. -/
theorem unscopedBufs_eq (c : Dev nD) (X : (b : Ref sig .tc) → Buf (Elt F) ((c : Thread nD τ).loc b)) :
    (unscopedBufs c X : sProp 𝕄) = iprop((((c : Thread nD τ).loc main_arg0) ↦{fullShare} X main_arg0) ∗ (((c : Thread nD τ).loc main_arg1) ↦{fullShare} X main_arg1) ∗ (((c : Thread nD τ).loc main_arg2) ↦{fullShare} X main_arg2) ∗ (((c : Thread nD τ).loc main_arg3) ↦{fullShare} X main_arg3) ∗ (((c : Thread nD τ).loc main_v0) ↦{fullShare} X main_v0) ∗ (((c : Thread nD τ).loc main_v1) ↦{fullShare} X main_v1) ∗ (((c : Thread nD τ).loc main_v2) ↦{fullShare} X main_v2) ∗ (((c : Thread nD τ).loc main_v3) ↦{fullShare} X main_v3) ∗ (((c : Thread nD τ).loc main_v4) ↦{fullShare} X main_v4) ∗ (((c : Thread nD τ).loc main_v5) ↦{fullShare} X main_v5) ∗ (((c : Thread nD τ).loc main_v6) ↦{fullShare} X main_v6) ∗ (((c : Thread nD τ).loc main_v7) ↦{fullShare} X main_v7)) := by
  unfold unscopedBufs
  rw [show (Finset.univ.filter fun b : Ref sig .tc => ¬ b.isScoped) = {main_arg0, main_arg1, main_arg2, main_arg3, main_v0, main_v1, main_v2, main_v3, main_v4, main_v5, main_v6, main_v7} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The region -/

/-- What the core owes beside the region: the start of the SparseCores, having waited for nothing above the bottom level. -/
def owing (c : Dev nD) : sProp 𝕄 :=
  iprop(∃ R, ⌜(KC (F := F)).WBelow (SparseCore.T c) R 0⌝ ∗ owes (SparseCore.T c) ((KC (F := F)).Otc c 0) R)

/-- The region: from the arrays at their contents to the arrays with the result at the product. -/
def reg0 : Pipeline.RegionSeg (pcfgs (F := F)) adm (pdats W) (none : HIx 1) defs₀ 𝒱₀ (KC (F := F)).L (KC (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro _ (pdats W) none 0 c fun w s t => (KC (F := F)).mayWait_none _ (Otc_none c)
  pre c := iprop(unscopedBufs c (W c) ∗ owing c)
  post c := iprop(unscopedBufs c (afterMM (W c)) ∗ owing c)
  X _ := iprop(emp)
  Y _ := iprop(emp)
  Z c := iprop(Pipeline.unscopedRest (Ix := HIx 1) (Name := ℕ) (U := UU) (Lvl := ℕ) spec0 c (W c))
  hentry c := by
    rw [Pipeline.ownSems0_none]
    have hsplit := Pipeline.arrays_of_unscopedBufs (pcfgs (F := F)) adm (pdats W) launch0.win launch0.arr_whole c
      ((pdats W 0 c).share_full fun _ => rfl) (W c) fun _ => rfl
    unfold owing
    iintro ⟨⟨Hub, ⟨%R, %hR, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists R; isplitr; · ipureintro; exact fun p hp => Or.inl (hR p hp)
      iexact HO
    isplitr; · iempintro
    iexact Hr
  hin c := by iintro -; iempintro
  hout c := by
    rw [Pipeline.ownSems0_none, scopedRest0_eq]
    iintro -; isplitr; · iempintro
    isplitr <;> iempintro
  hexit c := by
    rw [arrays_eq, unscopedRest0_eq, unscopedBufs_eq, arrAt_v0, arrAt_v1, arrAt_v2]
    unfold owing Pipeline.Dat.owesAt Pipeline.owesWithin
    iintro ⟨⟨H0, H1, H2⟩, ⟨%R, %hR, HO⟩, -, ⟨Ha0, Ha1, Ha2, Ha3, H3, H4, H5, H6, H7⟩⟩
    imodintro
    isplitr [HO]
    · isplitl [Ha0]; · iexact Ha0
      isplitl [Ha1]; · iexact Ha1
      isplitl [Ha2]; · iexact Ha2
      isplitl [Ha3]; · iexact Ha3
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexists R
    isplitr
    · ipureintro
      intro p hp
      rcases hR hp with h | ⟨w, s, h⟩
      · exact h
      · rw [h]; exact le_rfl
    iexact HO

/-- The ghost state the region is entered with. -/
abbrev regGhost (c : Dev nD) : sProp 𝕄 :=
  iprop(Pipeline.cellsGhost (Pipeline.pin (pcfgs (F := F)) adm) EP 0 c ∗ Pipeline.toksInit (Pipeline.pin (pcfgs (F := F)) adm) EP 0 c)

/-- The region as @main calls it: from the arrays to the arrays with the result at the product. -/
theorem wp_region [∀ e, Nonempty (Elt F e)] (c : Dev nD) (Q : PUnit → sProp 𝕄) :
    iprop(levAts (KC (F := F)).L (KC (F := F)).lev ∗ boundary (SparseCore.T c) ∗ unscopedBufs c (W c) ∗ owing c ∗ regGhost c
        ∗ (iprop(boundary (SparseCore.T c) ∗ unscopedBufs c (afterMM (W c)) ∗ owing c) -∗ Q ⟨⟩))
      ⊢ wp frame (wpE ((KC (F := F)).defs DP) 𝒱 (SparseCore.T c) none) Set.univ
        (Prog.lift (.customCall (SparseCore.inner (Pipeline.entry 0)) ())) Q := by
  have h1 := Pipeline.RegionSeg.wp (pcfgs (F := F)) adm (pdats W) (none : HIx 1) cellOf_inj EP defs₀ 𝒱₀ (KC (F := F)).L (KC (F := F)).lev
    (reg0 W) c none (fun _ h => by cases h) (fun x => .ret x) Q
  have h2 := (KC (F := F)).wp_liftProg DP 𝒱 (SparseCore.T c) Set.univ none (.op (.customCall (Pipeline.entry 0) ()) fun x => .ret x) Q
  rw [show (reg0 W).pre c = iprop(unscopedBufs c (W c) ∗ owing c) from rfl,
    show (reg0 W).post c = iprop(unscopedBufs c (afterMM (W c)) ∗ owing c) from rfl] at h1
  refine BI.BIBase.Entails.trans ?_ h2
  refine BI.BIBase.Entails.trans ?_ h1
  iintro ⟨Hl, Hb, Hu, Ho, ⟨Hg, Ht⟩, Hk⟩
  isplitl [Hk]
  · iintro ⟨Hb, Hu, Ho⟩
    rw [wp_ret]; imodintro
    iapply Hk
    isplitl [Hb]; · iexact Hb
    isplitl [Hu]; · iexact Hu
    iexact Ho
  isplitl [Hb]; · iexact Hb
  isplitl [Hu Ho]
  · isplitl [Hu]; · iexact Hu
    iexact Ho
  isplitl [Hl]; · iexact Hl
  isplitl [Hg]; · iexact Hg
  iexact Ht

end Cert.KernelIdeal.Hand
-- ==== Proof.IMain.lean ====
module

public import proofs.«01_k».proof.Proof.IRegion

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within reshape_result reshape_result_ne)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The values -/

/-- The table the SparseCores read: the products, eight rows of 32768. -/
def lutAll (x : S1x4096.Idx → Elt F .f32) (b : S2x256x1x8.Idx → Elt F .f32) : S8x32768.Idx → Elt F .f32 :=
  shapeCast S8x32768 (lutMM (shapeCast S512x8 x shapeCasts_S1x4096_S512x8) (shapeCast S512x8 b shapeCasts_S2x256x1x8_S512x8)) shapeCasts_S512x512_S8x32768

/-- The codes as the SparseCores read them. -/
def codesAll (k : S512x4096x2.Idx → Elt F .i32) : S8x64x8192.Idx → Elt F .i32 := shapeCast S8x64x8192 k shapeCasts_S512x4096x2_S8x64x8192

/-- The scales as the SparseCores read them. -/
def scalesAll (s : S4096x1x1x1.Idx → Elt F .f32) : S4096.Idx → Elt F .f32 := shapeCast S4096 s shapeCasts_S4096x1x1x1_S4096

/-- The kernel's result from its four arguments. -/
def kernelOut (x : S1x4096.Idx → Elt F .f32) (b : S2x256x1x8.Idx → Elt F .f32) (k : S512x4096x2.Idx → Elt F .i32)
    (s : S4096x1x1x1.Idx → Elt F .f32) : S1x4096.Idx → Elt F .f32 :=
  shapeCast S1x4096 (result (lutAll x b) (codesAll k) (scalesAll s)) shapeCasts_S4096_S1x4096

/-- The table, the codes and the scales of device `d`, from its launch memory. -/
def tabs (d : Dev nD) : S8x32768.Idx → Elt F .f32 := lutAll (m ((SparseCore.T d).loc main_arg0)) (m ((SparseCore.T d).loc main_arg1))
def cods (d : Dev nD) : S8x64x8192.Idx → Elt F .i32 := codesAll (F := F) (m ((SparseCore.T d).loc main_arg2))
def scls (d : Dev nD) : S4096.Idx → Elt F .f32 := scalesAll (m ((SparseCore.T d).loc main_arg3))

/-! ## The contents, statement by statement -/

/-- A TensorCore's array as a device's buffer. -/
abbrev rf (b : Ref sig .tc) : DevRef τ sig := Proc.devRef .tc b

abbrev op0 : HloOp τ sig (Elt F) := StableHlo.reshape main_arg0 main_v0 (rfl : (.f32 : EltTy) = .f32) shapeCasts_S1x4096_S512x8
abbrev op1 : HloOp τ sig (Elt F) := StableHlo.reshape main_arg1 main_v1 (rfl : (.f32 : EltTy) = .f32) shapeCasts_S2x256x1x8_S512x8
abbrev op3 : HloOp τ sig (Elt F) := StableHlo.reshape main_v2 main_v3 (rfl : (.f32 : EltTy) = .f32) shapeCasts_S512x512_S8x32768
abbrev op4 : HloOp τ sig (Elt F) := StableHlo.reshape main_arg2 main_v4 (rfl : (.i32 : EltTy) = .i32) shapeCasts_S512x4096x2_S8x64x8192
abbrev op5 : HloOp τ sig (Elt F) := StableHlo.reshape main_arg3 main_v5 (rfl : (.f32 : EltTy) = .f32) shapeCasts_S4096x1x1x1_S4096
abbrev op7 : HloOp τ sig (Elt F) := StableHlo.reshape main_v6 main_v7 (rfl : (.f32 : EltTy) = .f32) shapeCasts_S4096_S1x4096

def W0 (d : Dev nD) : Valuation τ sig (Elt F) := fun b => m (d, b)
def W1 (d : Dev nD) : Valuation τ sig (Elt F) := (op0 (F := F)).result (W0 m d)
def W2 (d : Dev nD) : Valuation τ sig (Elt F) := (op1 (F := F)).result (W1 m d)
def W3 (d : Dev nD) : Valuation τ sig (Elt F) := Function.update (W2 m d) (rf main_v2) (lutMM (W2 m d (rf main_v0)) (W2 m d (rf main_v1)))
def W4 (d : Dev nD) : Valuation τ sig (Elt F) := (op3 (F := F)).result (W3 m d)
def W5 (d : Dev nD) : Valuation τ sig (Elt F) := (op4 (F := F)).result (W4 m d)
def W6 (d : Dev nD) : Valuation τ sig (Elt F) := (op5 (F := F)).result (W5 m d)
def W7 (d : Dev nD) : Valuation τ sig (Elt F) := Function.update (W6 m d) (rf main_v6) (result (tabs m d) (cods m d) (scls m d))

/-- The TensorCore's arrays. -/
def S12 : Finset (DevRef τ sig) := {rf main_arg0, rf main_arg1, rf main_arg2, rf main_arg3, rf main_v0, rf main_v1, rf main_v2, rf main_v3, rf main_v4, rf main_v5, rf main_v6, rf main_v7}

omit [FloatOps F] in
theorem held_S12 (d : Dev nD) (Y : Valuation τ sig (Elt F)) :
    (held (SparseCore.T d) S12 Y : sProp 𝕄) = iprop(((SparseCore.T d).loc main_arg0 ↦{fullShare} Y (rf main_arg0)) ∗ ((SparseCore.T d).loc main_arg1 ↦{fullShare} Y (rf main_arg1)) ∗ ((SparseCore.T d).loc main_arg2 ↦{fullShare} Y (rf main_arg2)) ∗ ((SparseCore.T d).loc main_arg3 ↦{fullShare} Y (rf main_arg3)) ∗ ((SparseCore.T d).loc main_v0 ↦{fullShare} Y (rf main_v0)) ∗ ((SparseCore.T d).loc main_v1 ↦{fullShare} Y (rf main_v1)) ∗ ((SparseCore.T d).loc main_v2 ↦{fullShare} Y (rf main_v2)) ∗ ((SparseCore.T d).loc main_v3 ↦{fullShare} Y (rf main_v3)) ∗ ((SparseCore.T d).loc main_v4 ↦{fullShare} Y (rf main_v4)) ∗ ((SparseCore.T d).loc main_v5 ↦{fullShare} Y (rf main_v5)) ∗ ((SparseCore.T d).loc main_v6 ↦{fullShare} Y (rf main_v6)) ∗ ((SparseCore.T d).loc main_v7 ↦{fullShare} Y (rf main_v7))) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_S12 (d : Dev nD) (Y : Valuation τ sig (Elt F)) :
    (unscopedBufs d (fun b => Y (rf b)) : sProp 𝕄) = held (SparseCore.T d) S12 Y := by
  rw [unscopedBufs_eq, held_S12]

/-- The region's effect on the contents. -/
theorem after_W3 (d : Dev nD) : afterMM (fun b => W2 m d (rf b)) = fun b => W3 m d (rf b) := by
  funext b
  unfold afterMM W3
  by_cases h : b = main_v2
  · subst h
    rw [Function.update_self, Function.update_self]
  · rw [Function.update_of_ne h, Function.update_of_ne (StableHlo.devRef_ne_of_ne h)]

theorem W2_ne (d : Dev nD) (b : Ref sig .tc) (h0 : b ≠ main_v0) (h1 : b ≠ main_v1) : W2 m d (rf b) = m ((SparseCore.T d).loc b) := by
  unfold W2 W1
  rw [reshape_result_ne (h := h1), reshape_result_ne (h := h0)]
  rfl

theorem W2_v0 (d : Dev nD) : W2 m d (rf main_v0) = shapeCast S512x8 (m ((SparseCore.T d).loc main_arg0)) shapeCasts_S1x4096_S512x8 := by
  unfold W2 W1
  rw [reshape_result_ne (h := (by decide : main_v0 ≠ main_v1)), reshape_result]
  rfl

theorem W2_v1 (d : Dev nD) : W2 m d (rf main_v1) = shapeCast S512x8 (m ((SparseCore.T d).loc main_arg1)) shapeCasts_S2x256x1x8_S512x8 := by
  unfold W2 W1
  rw [reshape_result, reshape_result_ne (h := (by decide : main_arg1 ≠ main_v0))]
  rfl

theorem W3_ne (d : Dev nD) (b : Ref sig .tc) (h0 : b ≠ main_v0) (h1 : b ≠ main_v1) (h2 : b ≠ main_v2) : W3 m d (rf b) = m ((SparseCore.T d).loc b) := by
  unfold W3
  rw [Function.update_of_ne (StableHlo.devRef_ne_of_ne h2), W2_ne m d b h0 h1]

theorem W6_ne (d : Dev nD) (b : Ref sig .tc) (h0 : b ≠ main_v0) (h1 : b ≠ main_v1) (h2 : b ≠ main_v2) (h3 : b ≠ main_v3) (h4 : b ≠ main_v4) (h5 : b ≠ main_v5) :
    W6 m d (rf b) = m ((SparseCore.T d).loc b) := by
  unfold W6 W5 W4
  rw [reshape_result_ne (h := h5), reshape_result_ne (h := h4), reshape_result_ne (h := h3), W3_ne m d b h0 h1 h2]

theorem W6_v3 (d : Dev nD) : W6 m d (rf main_v3) = tabs m d := by
  unfold W6 W5 W4
  rw [reshape_result_ne (h := (by decide : main_v3 ≠ main_v5)), reshape_result_ne (h := (by decide : main_v3 ≠ main_v4)), reshape_result]
  unfold W3
  rw [Function.update_self, W2_v0, W2_v1]
  rfl

theorem W6_v4 (d : Dev nD) : W6 m d (rf main_v4) = cods m d := by
  unfold W6 W5 W4
  rw [reshape_result_ne (h := (by decide : main_v4 ≠ main_v5)), reshape_result, reshape_result_ne (h := (by decide : main_arg2 ≠ main_v3)), W3_ne m d main_arg2 (by decide) (by decide) (by decide)]
  rfl

theorem W6_v5 (d : Dev nD) : W6 m d (rf main_v5) = scls m d := by
  unfold W6 W5 W4
  rw [reshape_result, reshape_result_ne (h := (by decide : main_arg3 ≠ main_v4)), reshape_result_ne (h := (by decide : main_arg3 ≠ main_v3)), W3_ne m d main_arg3 (by decide) (by decide) (by decide)]
  rfl

/-- What the last statement leaves in the result. -/
theorem W8_v7 (d : Dev nD) : (op7 (F := F)).result (W7 m d) (rf main_v7)
    = kernelOut (m ((SparseCore.T d).loc main_arg0)) (m ((SparseCore.T d).loc main_arg1)) (m ((SparseCore.T d).loc main_arg2)) (m ((SparseCore.T d).loc main_arg3)) := by
  rw [reshape_result]
  unfold W7
  rw [Function.update_self]
  rfl

/-! ## The SparseCores' call -/

/-- What the call takes for the SparseCores. -/
theorem st_eq (d : Dev nD) : (bigSep Finset.univ fun c : Fin ((KC (F := F)).nCore 0) => (P (tabs m) (cods m) (scls m)).st 0 d c)
    = iprop((bigSep Finset.univ fun c : Fin 2 => readPts (tabs m) (cods m) (scls m) (coreShare c.val) d) ∗ bigSep Finset.univ fun c : Fin 2 => anyPts (F := F) (coreSet c.val) d) := by
  show (bigSep (Finset.univ : Finset (Fin 2)) fun c => iprop(readPts (tabs m) (cods m) (scls m) (coreShare c.val) d ∗ anyPts (F := F) (coreSet c.val) d)) = _
  rw [bigSep_sep']

/-- What the call hands back. -/
theorem dn_eq (d : Dev nD) : (bigSep Finset.univ fun c : Fin ((KC (F := F)).nCore 0) => (P (tabs m) (cods m) (scls m)).dn 0 d c)
    = (bigSep Finset.univ fun c : Fin 2 => outPts (tabs m) (cods m) (scls m) (coreSet c.val) d) := rfl

/-! ## @main -/

/-- What @main leaves: the arguments as launched, the result at the kernel's value. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v7 ↦{fullShare} (op7 (F := F)).result (W7 m d) (rf main_v7)))

/-- The last statement's two arrays. -/
def S2 : Finset (DevRef τ sig) := {rf main_v6, rf main_v7}

omit [FloatOps F] in
theorem held_S2 (d : Dev nD) (Y : Valuation τ sig (Elt F)) :
    (held (SparseCore.T d) S2 Y : sProp 𝕄) = iprop(((SparseCore.T d).loc main_v6 ↦{fullShare} Y (rf main_v6)) ∗ ((SparseCore.T d).loc main_v7 ↦{fullShare} Y (rf main_v7))) := by
  unfold held S2
  rw [SparseCore.bigSep_insert' (by decide), bigSep_singleton]

/-- The contents the call finds: the arguments, the table, the codes, the scales. -/
theorem held_W6 (d : Dev nD) : (held (SparseCore.T d) S12 (W6 m d) : sProp 𝕄)
    = iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_v0 ↦{fullShare} W6 m d (rf main_v0)) ∗ ((SparseCore.T d).loc main_v1 ↦{fullShare} W6 m d (rf main_v1)) ∗ ((SparseCore.T d).loc main_v2 ↦{fullShare} W6 m d (rf main_v2))
      ∗ (lLoc d ↦{fullShare} (tabs m d : Buf (Elt F) (lLoc d))) ∗ (cLoc d ↦{fullShare} (cods m d : Buf (Elt F) (cLoc d))) ∗ (sLoc d ↦{fullShare} (scls m d : Buf (Elt F) (sLoc d)))
      ∗ ((SparseCore.T d).loc main_v6 ↦{fullShare} m ((SparseCore.T d).loc main_v6)) ∗ ((SparseCore.T d).loc main_v7 ↦{fullShare} m ((SparseCore.T d).loc main_v7))) := by
  rw [held_S12, W6_v3, W6_v4, W6_v5,
    W6_ne m d main_arg0 (by decide) (by decide) (by decide) (by decide) (by decide) (by decide),
    W6_ne m d main_arg1 (by decide) (by decide) (by decide) (by decide) (by decide) (by decide),
    W6_ne m d main_arg2 (by decide) (by decide) (by decide) (by decide) (by decide) (by decide),
    W6_ne m d main_arg3 (by decide) (by decide) (by decide) (by decide) (by decide) (by decide),
    W6_ne m d main_v6 (by decide) (by decide) (by decide) (by decide) (by decide) (by decide),
    W6_ne m d main_v7 (by decide) (by decide) (by decide) (by decide) (by decide) (by decide)]

theorem W7_v6 (d : Dev nD) : W7 m d (rf main_v6) = result (tabs m d) (cods m d) (scls m d) := Function.update_self _ _ _

theorem W7_v7 (d : Dev nD) : W7 m d (rf main_v7) = m ((SparseCore.T d).loc main_v7) := by
  unfold W7
  rw [Function.update_of_ne (StableHlo.devRef_ne_of_ne (by decide)), W6_ne m d main_v7 (by decide) (by decide) (by decide) (by decide) (by decide) (by decide)]

theorem sub0 : (op0 (F := F)).bufs ⊆ S12 := show ({rf main_arg0, rf main_v0} : Finset (DevRef τ sig)) ⊆ S12 by decide
theorem sub1 : (op1 (F := F)).bufs ⊆ S12 := show ({rf main_arg1, rf main_v1} : Finset (DevRef τ sig)) ⊆ S12 by decide
theorem sub3 : (op3 (F := F)).bufs ⊆ S12 := show ({rf main_v2, rf main_v3} : Finset (DevRef τ sig)) ⊆ S12 by decide
theorem sub4 : (op4 (F := F)).bufs ⊆ S12 := show ({rf main_arg2, rf main_v4} : Finset (DevRef τ sig)) ⊆ S12 by decide
theorem sub5 : (op5 (F := F)).bufs ⊆ S12 := show ({rf main_arg3, rf main_v5} : Finset (DevRef τ sig)) ⊆ S12 by decide
theorem sub7 : (op7 (F := F)).bufs ⊆ S2 := show ({rf main_v6, rf main_v7} : Finset (DevRef τ sig)) ⊆ S2 by decide

/-- The TensorCore's state before the call, with what it owes set apart. -/
theorem tcSt_split (d : Dev nD) : ((KC (F := F)).tcSt EH d 0 : sProp 𝕄) ⊢ iprop(owing d ∗ (owing d -∗ (KC (F := F)).tcSt EH d 0)) := by
  unfold SparseCore.Cfg.tcSt owing
  iintro ⟨HO, Hr⟩
  isplitl [HO]; · iexact HO
  iintro HO
  isplitl [HO]; · iexact HO
  iexact Hr

/-- @main on device `d`. -/
theorem hmain [∀ e, Nonempty (Elt F e)] (κ : GSem nD τ sig → ℕ) (d : Dev nD) :
    iprop((KC (F := F)).ctx EH (P (tabs m) (cods m) (scls m)) κ ∗ (KC (F := F)).tcSt EH d 0 ∗ (KC (F := F)).tcRes m ρ d ∗ regGhost d)
      ⊢ wp frame (wpE ((KC (F := F)).defs DP) 𝒱 (SparseCore.T d) none) Set.univ (main d)
          fun _ => iprop((KC (F := F)).tcSt EH d 1 ∗ FIN m d ∗ (KC (F := F)).tcEnd d) := by
  unfold SparseCore.Cfg.tcRes SparseCore.Cfg.tcEnd
  rw [show (unscopedBufs d (fun b => m ((SparseCore.T d).loc b)) : sProp 𝕄) = held (SparseCore.T d) S12 (W0 m d) from unscoped_S12 d (W0 m d)]
  simp only [main, wp_bind, wp_pure]
  iintro ⟨#Hctx, Hst, ⟨Hb, Hheld, Hts, -⟩, HG⟩
  -- the two reshapes before the region
  iapply (wp_hlo_within 𝒱 (SparseCore.T d) none Set.univ (op := op0) (S := S12) sub0 (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S12) sub1 (V := W1 m d)) $$ [Hb Hheld]
  · isplitl [Hb]; · iexact Hb
    iexact Hheld
  iintro ⟨Hb, Hheld⟩
  rw [wp_ret]; imodintro
  -- the region
  ihave Hl := (SparseCore.Cfg.ctx_levAts κ) $$ Hctx
  ihave Hs := (tcSt_split d) $$ Hst
  icases Hs with ⟨HO, Hst⟩
  ihave Hu := (Entails.of_eq (show (held (SparseCore.T d) S12 ((op1 (F := F)).result (W1 m d)) : sProp 𝕄) = unscopedBufs d (fun b => W2 m d (rf b)) from (unscoped_S12 d (W2 m d)).symm)) $$ Hheld
  iapply (wp_region (fun c b => W2 m c (rf b)) d _) $$ [Hb Hl Hu HO Hst HG Hts]
  isplitl [Hl]; · iexact Hl
  isplitl [Hb]; · iexact Hb
  isplitl [Hu]; · iexact Hu
  isplitl [HO]; · iexact HO
  isplitl [HG]; · iexact HG
  iintro ⟨Hb, Hu, HO⟩
  ihave Hst := Hst $$ HO
  ihave Hheld := (Entails.of_eq ((congrArg (unscopedBufs d) (after_W3 m d)).trans (unscoped_S12 d (W3 m d)))) $$ Hu
  -- the three reshapes between the region and the call
  iapply (wp_hlo_within 𝒱 (SparseCore.T d) none Set.univ (op := op3) (S := S12) sub3 (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S12) sub4 (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S12) sub5 (V := W5 m d)) $$ [Hb Hheld]
  · isplitl [Hb]; · iexact Hb
    iexact Hheld
  iintro ⟨Hb, Hheld⟩
  rw [wp_ret]; imodintro
  ihave Hh := (Entails.of_eq ((show (held (SparseCore.T d) S12 ((op5 (F := F)).result (W5 m d)) : sProp 𝕄) = held (SparseCore.T d) S12 (W6 m d) from rfl).trans (held_W6 m d))) $$ Hheld
  icases Hh with ⟨Ha0, Ha1, Ha2, Ha3, -, -, -, H3, H4, H5, H6, H7⟩
  -- the SparseCores' call
  iapply ((KC (F := F)).wp_run DP 𝒱 (EH := EH) (P := P (tabs m) (cods m) (scls m)) κ d 0) $$ [Hst H3 H4 H5 H6 H7 Hb Hts Ha0 Ha1 Ha2 Ha3]
  isplitr; · iexact Hctx
  isplitl [Hst]; · iexact Hst
  isplitl [H3 H4 H5 H6]
  · rw [st_eq]
    isplitl [H3 H4 H5]
    · iapply (readPts_split (tabs m) (cods m) (scls m) fullShare d 2)
      unfold readPts
      isplitl [H3]; · iexact H3
      isplitl [H4]; · iexact H4
      iexact H5
    · iapply (anyPts_split d _ (fun c : Fin 2 => coreSet c.val) coreSets_disjoint coreSets_cover)
      unfold anyPts
      iexists _; iexact H6
  iintro ⟨Hst, Hdn⟩
  ihave Hdn := (Entails.of_eq (dn_eq m d)) $$ Hdn
  ihave H6 := (outPts_join (tabs m) (cods m) (scls m) d _ (fun c : Fin 2 => coreSet c.val) coreSets_disjoint coreSets_cover) $$ Hdn
  -- the last reshape
  iapply (wp_hlo_within 𝒱 (SparseCore.T d) none Set.univ (op := op7) (S := S2) sub7 (V := W7 m d)) $$ [Hb H6 H7]
  · isplitl [Hb]; · iexact Hb
    rw [held_S2, W7_v6, W7_v7]
    isplitl [H6]
    · unfold outPts; iexact H6
    iexact H7
  iintro ⟨Hb, Hheld⟩
  ihave Hh := (Entails.of_eq (held_S2 d _)) $$ Hheld
  icases Hh with ⟨-, H7⟩
  rw [wp_ret]; imodintro; imodintro
  isplitl [Hst]; · iexact Hst
  isplitr [Hb Hts]
  · unfold FIN
    isplitl [Ha0]; · iexact Ha0
    isplitl [Ha1]; · iexact Ha1
    isplitl [Ha2]; · iexact Ha2
    isplitl [Ha3]; · iexact Ha3
    iexact H7
  isplitl [Hb]; · iexact Hb
  iexact Hts

end Cert.KernelIdeal.Hand
-- ==== Proof.IRun.lean ====
module

public import proofs.«01_k».proof.Proof.IMain

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The launch's ghost state -/

/-- The handshakes' rounds and the staging rounds. -/
def u₀ : UU :=
  (initOf (KC (F := F)).hsCells (KC (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emps {I : Type} (s : Finset I) : (bigSep s fun _ => iprop(emp)) = (iprop(emp) : sProp 𝕄) := bigSep_emp_const s

/-- The regions' ghost state, over the one region of the program. -/
theorem ghosts_eq : (bigSep Finset.univ fun d : Dev nD => (regGhost d : sProp 𝕄))
    = iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) := by
  simp only [show (Finset.univ : Finset (Fin 1)) = {0} from rfl, bigSep_singleton]

theorem hu₀ : (ownU (u₀ (F := F)) : sProp 𝕄)
    ⊢ |={Set.univ}=> iprop(BI.own (EH (initOf (KC (F := F)).hsCells (KC (F := F)).hsToks)) ∗ (bigSep Finset.univ fun d : Dev nD => regGhost d)
        ∗ bigSep Finset.univ fun thr : Thread nD τ => bigSep Finset.univ fun q : Fin 1 => (P (tabs m) (cods m) (scls m)).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (show (BI.own (((Emb.inl : Emb (UR sig nD τ) (UR sig nD τ × Counters)).trans embR) (initOf (Pipeline.cells (Pipeline.pin (pcfgs (F := F)) adm) cellOf_inj) (Pipeline.launchToks (Pipeline.pin (pcfgs (F := F)) adm) cellOf_inj))) : sProp 𝕄)
    = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · rw [ghosts_eq]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emps _, bigSep_emps]]
  iempintro

/-! ## What the final memory holds -/

/-- The four arguments as launched, the result at the kernel's value. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v7)
      = kernelOut (m ((SparseCore.T d).loc main_arg0)) (m ((SparseCore.T d).loc main_arg1)) (m ((SparseCore.T d).loc main_arg2)) (m ((SparseCore.T d).loc main_arg3))

omit [FloatOps F] in
/-- A whole buffer held beside the machine's state: the memory holds its contents. -/
theorem mem_of_pt (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H7⟩, HSI⟩
  ihave H := (mem_of_pt s' _ _) $$ [H0 HSI]
  · isplitl [H0] <;> iassumption
  icases H with ⟨%h0, HSI⟩
  ihave H := (mem_of_pt s' _ _) $$ [H1 HSI]
  · isplitl [H1] <;> iassumption
  icases H with ⟨%h1, HSI⟩
  ihave H := (mem_of_pt s' _ _) $$ [H2 HSI]
  · isplitl [H2] <;> iassumption
  icases H with ⟨%h2, HSI⟩
  ihave H := (mem_of_pt s' _ _) $$ [H3 HSI]
  · isplitl [H3] <;> iassumption
  icases H with ⟨%h3, HSI⟩
  ihave H := (mem_of_pt s' _ _) $$ [H7 HSI]
  · isplitl [H7] <;> iassumption
  icases H with ⟨%h7, -⟩
  ipureintro
  exact ⟨h0, h1, h2, h3, h7.trans (W8_v7 m d)⟩

/-! ## The run -/

/-- What every run ends in: on every device the arguments as launched and the result at the kernel's value, every semaphore at zero. -/
def QC : PUnit × MemSt nD τ sig (Elt F) → Prop := fun r =>
  (∀ d : Dev nD,
    r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_v7)
      = kernelOut (m ((SparseCore.T d).loc main_arg0)) (m ((SparseCore.T d).loc main_arg1)) (m ((SparseCore.T d).loc main_arg2)) (m ((SparseCore.T d).loc main_arg3)))
  ∧ r.2.sem = fun _ => 0

/-- From codes in range the program runs to its end, the result at the kernel's value. -/
theorem run_main [∀ e, Nonempty (Elt F e)] (hC : ∀ (d : Dev nD) (x : S512x4096x2.Idx), (m ((SparseCore.T d).loc main_arg2) x : BitVec 32).toNat < 256) :
    θ_run (Cert.KernelIdeal.defs (F := F)) (Cert.KernelIdeal.threads (F := F)) ⟨m, fun _ => 0, ρ⟩ (QC m) :=
  SparseCore.Cfg.θ_run_sc_quiescent (K := KC (F := F)) (D := DP) (𝒱 := 𝒱) (EH := EH) (P := P (tabs m) (cods m) (scls m)) (A := ∅) facts v₀
    (fun q hq => match q with | 0 => nomatch hq)
    (fun q _ => match q with | 0 => tileObl (tabs m) (cods m) (scls m) facts fun d x => hC d _)
    (fun q _ => match q with | 0 => SparseCore.Cfg.VecSplit.of_plain (vecSplit (tabs m) (cods m) (scls m)))
    m ρ main (fun d => regGhost d) (FIN m) (u₀ (F := F)) (sep_elim_left.trans (hu₀ m)) (hmain m ρ) (fq m) (hfin m) (QC m) (fun _ h hz => ⟨h, hz⟩)

end Cert.KernelIdeal.Hand
-- ==== Proof.Frames.lean ====
/-
  The frames: the kernel at the bit-exact values, the kernel at the ideal values and the reference each run to their
  end from codes in range, the arguments unchanged and every semaphore at zero.
-/
module

public import proofs.«01_k».proof.Defs
public import proofs.«01_k».proof.Proof.Codes
public import proofs.«01_k».proof.Proof.KRun
public import proofs.«01_k».proof.Proof.IRun
public import proofs.«01_k».proof.Proof.Gen.ReferenceIdeal.Run

@[expose] public section

noncomputable section

namespace Cert.Frames

open Idealize.ShloMosaic Idealize.SL.Sem

instance bitsNonempty (e : EltTy) : Nonempty (Elt Bits e) := by
  cases e <;> infer_instance

instance idealNonempty (e : EltTy) : Nonempty (Elt Ideal e) := by
  cases e <;> infer_instance

/-- The kernel at the bit-exact values runs to its end, its arguments unchanged, every semaphore at zero. -/
theorem kernel : quiescent_Kernel := fun m g hpre =>
  (θ_run (Cert.Kernel.defs (F := Bits)) _ _).mono (fun _ h => ⟨fun c => ⟨(h.1 c).1, (h.1 c).2.1, (h.1 c).2.2.1, (h.1 c).2.2.2.1⟩, h.2⟩)
    (Cert.Kernel.Hand.run_main (F := Bits) m g fun d x => Cert.Codes.codes_lt _ _ _ _ (hpre d) x)

/-- The kernel at the ideal values runs to its end, its arguments unchanged, every semaphore at zero. -/
theorem kernelIdeal : quiescent_KernelIdeal := fun m g hpre =>
  (θ_run (Cert.KernelIdeal.defs (F := Ideal)) _ _).mono (fun _ h => ⟨fun c => ⟨(h.1 c).1, (h.1 c).2.1, (h.1 c).2.2.1, (h.1 c).2.2.2.1⟩, h.2⟩)
    (Cert.KernelIdeal.Hand.run_main (F := Ideal) m g fun d x => Cert.Codes.codes_lt _ _ _ _ (hpre d) x)

/-- The reference runs to its end, its arguments unchanged; it declares no semaphore, so every counter is at zero. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- The reference's frame. -/
theorem reference : quiescent_ReferenceIdeal := fun m g _ => reference_run m g

/-- The reference's frame under the precondition. -/
theorem reference_pre : quiescent_ReferenceIdeal_pre_codes_in_range := fun m g _ => reference_run m g

end Cert.Frames
-- ==== Proof.Sums.lean ====
/-
  The common value of the two programs: which entry of the table a code selects, and the sum over the 512 rows of the
  two halves' entries, at the extended reals. A double sum over 8 chunks of 64 rows is the sum over 512 rows.
-/
module

public import Idealize.ShloMosaic.PureOps.Ideal
public import Idealize.ShloMosaic.Lib.ValueIdxCore

@[expose] public section

noncomputable section

namespace Cert.Sums

open Idealize.ShloMosaic Idealize.ShloMosaic.ValueIdx

/-- The entry of the product of the activations' groups and the codebooks that row `J`, output `o` and half `c` take:
    row `J`, at position the code in half `c`. -/
def pick (T : (⟨2, ![512, 512]⟩ : Shape).Idx → EReal) (K : (⟨3, ![512, 4096, 2]⟩ : Shape).Idx → BitVec 32)
    (J : Fin 512) (o : Fin 4096) (c : Fin 2) : EReal :=
  T (ix2 J ⟨(256 * c.val + (K (ix3 J o c)).toNat) % 512, Nat.mod_lt _ (by decide)⟩)

/-- The product of the activations' groups (512 of 8) and the codebooks' entries (512 of 8). -/
def prod (A B : (⟨2, ![512, 8]⟩ : Shape).Idx → EReal) : (⟨2, ![512, 512]⟩ : Shape).Idx → EReal :=
  fun i => ∑ t : Fin 8, A (ix2 (⟨(i 0).val, (i 0).isLt⟩ : Fin 512) t) * B (ix2 (⟨(i 1).val, (i 1).isLt⟩ : Fin 512) t)

/-- A sum over `n` chunks of 64 is the sum over `64 n`. -/
theorem sum_chunks (g : Nat → EReal) (n : Nat) :
    ∑ k ∈ Finset.range n, ∑ j ∈ Finset.range 64, g (64 * k + j) = ∑ i ∈ Finset.range (64 * n), g i := by
  induction n with
  | zero => rfl
  | succ n ih => rw [Finset.sum_range_succ, ih, Nat.mul_succ, Finset.sum_range_add]

end Cert.Sums
-- ==== Proof.KernelSum.lean ====
/-
  The kernel's value at the extended reals: every output is the sum, over the 512 rows, of the first half's entry and
  of the second half's, times the output's scale.
-/
module

public import proofs.«01_k».proof.Proof.IMain
public import proofs.«01_k».proof.Proof.Sums
public import Idealize.ShloMosaic.Lib.MatmulPlain
public import Idealize.ShloMosaic.Lib.ValueLayout

@[expose] public section

noncomputable section

namespace Cert.KernelIdeal.Hand

open Cert.KernelIdeal Cert.KernelIdeal.Gen Cert.Sums
open Idealize.ShloMosaic hiding ix1 ix2 ix3 ix4 eq_ix1 eq_ix2
open Idealize.ShloMosaic.ValueIdx

/-! ## The accumulators as sums -/

/-- One slot's accumulator after `k` rows is what it was plus the sum of the gathered entries. -/
theorem foldVal_sum (L : S32768.Idx → EReal) (C : S64x256.Idx → BitVec 32) (v38 : IVec S16 32) (n k : Nat) (a : S16.Idx → EReal) (l : S16.Idx) :
    foldVal (F := Ideal) L C v38 n k a l = a l + ∑ j ∈ Finset.range k, at1 (F := Ideal) L (posOf (F := Ideal) C v38 j n l) := by
  induction k with
  | zero => exact (add_zero (a l)).symm
  | succ k ih =>
    rw [Finset.sum_range_succ, ← add_assoc, ← ih]
    rfl

/-- One slot's accumulator after `n` chunks is the sum over the chunks and their rows. -/
theorem accK_sum (Ls : Nat → S32768.Idx → EReal) (Cs : Nat → S64x256.Idx → BitVec 32) (n : Nat) (v : Fin 16) (l : S16.Idx) :
    accK (F := Ideal) Ls Cs n v l
      = ∑ k ∈ Finset.range n, ∑ j ∈ Finset.range 64, at1 (F := Ideal) (Ls k) (posOf (F := Ideal) (Cs k) laneBase j (16 * v.val) l) := by
  induction n with
  | zero => exact Ideal.ofBits_zero_f32
  | succ n ih =>
    rw [Finset.sum_range_succ, ← ih]
    exact foldVal_sum (Ls n) (Cs n) laneBase (16 * v.val) 64 (accK (F := Ideal) Ls Cs n v) l

/-! ## The layouts read at an index -/

/-- The position a lane reads, as a number. -/
theorem posOf_eq {C : S64x256.Idx → BitVec 32} (hC : CodesOK (F := Ideal) C) {j : Nat} (hj : j < 64) (n : Nat) (l : S16.Idx) :
    posOf (F := Ideal) C laneBase j n l = 512 * j + (256 * ((l 0).val % 2) + (at2 (F := Ideal) C j (n + (l 0).val)).toNat) := by
  have h1 : (at2 (F := Ideal) C j (n + (l 0).val)).toNat < 256 := hC _
  have h2 := laneBase_apply l
  unfold posOf
  simp only [BitVec.toNat_add, BitVec.toNat_mul, BitVec.toNat_ofNat, h2]
  omega

/-- Row `64 k + j` of the product is in row `k` of the table, from position `512 j` on. -/
theorem at1_rowOf (T : S512x512.Idx → EReal) (k j q : Nat) (hk : k < 8) (hj : j < 64) (hq : q < 512) :
    at1 (F := Ideal) (rowOf (F := Ideal) (shapeCast S8x32768 T shapeCasts_S512x512_S8x32768) k) (512 * j + q)
      = T (ix2 (⟨64 * k + j, by omega⟩ : Fin 512) (⟨q, hq⟩ : Fin 512)) := by
  refine shapeCast_apply T _ _ _ ?_
  rw [Shape.rowMajor_val_two, Shape.rowMajor_val_two]
  show (64 * k + j) * 512 + q = (k % 8) * 32768 + ((512 * j + q) % 32768) % 32768
  omega

/-- The code a slot reads in row `j` of chunk `k`: that of row `64 k + j`, output `o`, half `c`. -/
theorem at2_codesOf (K : S512x4096x2.Idx → BitVec 32) (w k j n : Nat) (o : Fin 4096) (c : Fin 2) (hk : k < 8) (hj : j < 64)
    (hn : n < 256) (h : 256 * w + n = 2 * o.val + c.val) :
    at2 (F := Ideal) (codesOf (F := Ideal) (codesAll (F := Ideal) K) w k) j n = K (ix3 (⟨64 * k + j, by omega⟩ : Fin 512) o c) := by
  refine shapeCast_apply K _ _ _ ?_
  rw [Shape.rowMajor_val_three, Shape.rowMajor_val_three]
  have ho := o.isLt
  have hc := c.isLt
  show ((64 * k + j) * 4096 + o.val) * 2 + c.val = ((k % 8) * 64 + (j % 64) % 64) * 8192 + (256 * w + n % 256) % 8192
  omega

/-- The scale an output takes. -/
theorem sclOf_scales (s : S4096x1x1x1.Idx → EReal) (w : Nat) (x : S128.Idx) (o : Fin 4096) (h : 128 * w + (x 0).val = o.val) :
    sclOf (F := Ideal) (scalesAll (F := Ideal) s) w x = shapeCast S4096 s shapeCasts_S4096x1x1x1_S4096 (ix1 o) := by
  refine congrArg (shapeCast S4096 s shapeCasts_S4096x1x1x1_S4096) (ixN_eq fun a => ?_)
  fin_cases a
  exact h.symm

/-- Every chunk of codes is below 256 where the codes are. -/
theorem codesOK_of {K : S512x4096x2.Idx → BitVec 32} (hK : ∀ x, (K x).toNat < 256) (w k : Nat) :
    CodesOK (F := Ideal) (codesOf (F := Ideal) (codesAll (F := Ideal) K) w k) := fun _ => hK _

/-! ## An output -/

/-- The accumulator of output `o` and half `c` is the sum of the picked entries over the 512 rows. -/
theorem acc_eq (T : S512x512.Idx → EReal) {K : S512x4096x2.Idx → BitVec 32} (hK : ∀ x, (K x).toNat < 256) (w : Nat) (v : Fin 16) (l : S16.Idx)
    (o : Fin 4096) (c : Fin 2) (h : 256 * w + (16 * v.val + (l 0).val) = 2 * o.val + c.val) :
    accK (F := Ideal) (rowOf (F := Ideal) (shapeCast S8x32768 T shapeCasts_S512x512_S8x32768)) (codesOf (F := Ideal) (codesAll (F := Ideal) K) w) 8 v l
      = ∑ J : Fin 512, pick T K J o c := by
  have hl : (l 0).val < 16 := (l 0).isLt
  have hv := v.isLt
  have hc := c.isLt
  rw [accK_sum]
  have e : ∀ k ∈ Finset.range 8, (∑ j ∈ Finset.range 64,
        at1 (F := Ideal) (rowOf (F := Ideal) (shapeCast S8x32768 T shapeCasts_S512x512_S8x32768) k)
          (posOf (F := Ideal) (codesOf (F := Ideal) (codesAll (F := Ideal) K) w k) laneBase j (16 * v.val) l))
      = ∑ j ∈ Finset.range 64, (fun J => if hJ : J < 512 then pick T K ⟨J, hJ⟩ o c else 0) (64 * k + j) := by
    intro k hk
    refine Finset.sum_congr rfl fun j hj => ?_
    have hk' := Finset.mem_range.mp hk
    have hj' := Finset.mem_range.mp hj
    have hx := hK (ix3 (⟨64 * k + j, by omega⟩ : Fin 512) o c)
    have hp : (l 0).val % 2 = c.val := by omega
    rw [posOf_eq (codesOK_of hK w k) hj', at2_codesOf K w k j (16 * v.val + (l 0).val) o c hk' hj' (by omega) h, hp,
      at1_rowOf T k j _ hk' hj' (by omega)]
    show _ = if hJ : 64 * k + j < 512 then pick T K ⟨64 * k + j, hJ⟩ o c else 0
    rw [dif_pos (by omega)]
    unfold pick
    exact congrArg T (congrArg (ix2 _) (Fin.ext (Nat.mod_eq_of_lt (by omega)).symm))
  refine (Finset.sum_congr rfl e).trans ((sum_chunks (fun J => if hJ : J < 512 then pick T K ⟨J, hJ⟩ o c else 0) 8).trans ?_)
  rw [Finset.sum_range]
  refine Finset.sum_congr rfl fun J _ => ?_
  exact dif_pos J.isLt

/-- Position `p` of the accumulators' array is slot `p / 16`, lane `p % 16`. -/
theorem at256_accBuf (A : Fin 16 → S16.Idx → EReal) (p : Nat) (hp : p < 256) :
    at256 (F := Ideal) (accBuf (F := Ideal) A) p = A ⟨p / 16, by omega⟩ (ix1 (⟨p % 16, by omega⟩ : Fin 16)) := by
  have e : p % 256 = p := Nat.mod_eq_of_lt hp
  unfold at256 accBuf
  have e1 : (⟨p % 256 / 16, by omega⟩ : Fin 16) = ⟨p / 16, by omega⟩ := Fin.ext (by show p % 256 / 16 = p / 16; rw [e])
  refine (congrFun (congrArg A e1) _).trans (congrArg (A _) (funext fun a => ?_))
  fin_cases a
  exact Fin.ext (by show p % 256 % 16 = p % 16; rw [e])

/-- The kernel's output `o`: the two halves' sums over the 512 rows, added and scaled. -/
theorem result_eq (T : S512x512.Idx → EReal) {K : S512x4096x2.Idx → BitVec 32} (hK : ∀ x, (K x).toNat < 256) (s : S4096x1x1x1.Idx → EReal) (o : Fin 4096) :
    result (F := Ideal) (shapeCast S8x32768 T shapeCasts_S512x512_S8x32768) (codesAll (F := Ideal) K) (scalesAll (F := Ideal) s) (ix1 o)
      = ((∑ J : Fin 512, pick T K J o 0) + ∑ J : Fin 512, pick T K J o 1) * shapeCast S4096 s shapeCasts_S4096x1x1x1_S4096 (ix1 o) := by
  have ho := o.isLt
  have hx : ((ixN S128 (by decide) ![o.val % 128]) 0).val = o.val % 128 := Nat.mod_eq_of_lt (Nat.mod_lt _ (by decide))
  have key : ∀ (c : Fin 2) (p : Nat), p = 2 * (o.val % 128) + c.val → at256 (F := Ideal) (accBuf (F := Ideal) (accK (F := Ideal)
        (rowOf (F := Ideal) (shapeCast S8x32768 T shapeCasts_S512x512_S8x32768)) (codesOf (F := Ideal) (codesAll (F := Ideal) K) (o.val / 128)) 8))
        p = ∑ J : Fin 512, pick T K J o c := by
    intro c p hp
    subst hp
    have hc := c.isLt
    rw [at256_accBuf _ _ (by omega)]
    refine acc_eq T hK (o.val / 128) _ _ o c ?_
    show 256 * (o.val / 128) + (16 * ((2 * (o.val % 128) + c.val) / 16) + (2 * (o.val % 128) + c.val) % 16) = _
    omega
  unfold result tileVal outVal
  show (at256 (F := Ideal) _ (2 * ((ixN S128 (by decide) ![o.val % 128]) 0).val) + at256 (F := Ideal) _ (2 * ((ixN S128 (by decide) ![o.val % 128]) 0).val + 1) : EReal)
    * sclOf (F := Ideal) (scalesAll (F := Ideal) s) (o.val / 128) (ixN S128 (by decide) ![o.val % 128]) = _
  rw [sclOf_scales s (o.val / 128) _ o (by rw [hx]; omega), hx]
  rw [key 0 _ (by rfl), key 1 _ (by rfl)]

/-- The TensorCore's table is the product of the groups and the codebooks. -/
theorem lutMM_eq (A B : S512x8.Idx → EReal) : lutMM (F := Ideal) A B = prod A B := by
  funext i
  rw [eq_ix2 i]
  refine (Ideal.matmul_transposedRhs_apply (M := 512) (K := 8) (N := 512) none (shapeCast S512x8 A shapeCasts_S512x8_S512x8) (shapeCast S512x8 B shapeCasts_S512x8_S512x8) (constant S512x512 .f32 0x00000000#32) (i 0) (i 1)).trans ?_
  rw [shapeCast_self, shapeCast_self]
  exact (congrArg (· + _) Ideal.ofBits_zero_f32).trans (zero_add _)

/-- The kernel's result, output by output. -/
theorem kernelOut_eq (x : S1x4096.Idx → EReal) (b : S2x256x1x8.Idx → EReal) {K : S512x4096x2.Idx → BitVec 32} (hK : ∀ x, (K x).toNat < 256)
    (s : S4096x1x1x1.Idx → EReal) (u : Fin 1) (o : Fin 4096) :
    kernelOut (F := Ideal) x b K s (ix2 u o)
      = ((∑ J : Fin 512, pick (prod (shapeCast S512x8 x shapeCasts_S1x4096_S512x8) (shapeCast S512x8 b shapeCasts_S2x256x1x8_S512x8)) K J o 0)
          + ∑ J : Fin 512, pick (prod (shapeCast S512x8 x shapeCasts_S1x4096_S512x8) (shapeCast S512x8 b shapeCasts_S2x256x1x8_S512x8)) K J o 1)
        * shapeCast S4096 s shapeCasts_S4096x1x1x1_S4096 (ix1 o) := by
  unfold kernelOut lutAll
  rw [lutMM_eq, shapeCast_a_1a_apply, result_eq _ hK]

end Cert.KernelIdeal.Hand
-- ==== Proof.RefSum.lean ====
/-
  The reference's value at the extended reals, for codes in range: every output is the sum, over the 512 rows and the
  two halves, of the entries the codes pick, times the output's scale.
-/
module

public import proofs.«01_k».proof.Proof.Gen.ReferenceIdeal.Run
public import proofs.«01_k».proof.Proof.Sums
public import Idealize.ShloMosaic.Lib.MatmulPlain
public import Idealize.ShloMosaic.Lib.StackMember
public import Idealize.ShloMosaic.Lib.ValueLayout
public import Idealize.ShloMosaic.Lib.ReduceAll

@[expose] public section

noncomputable section

namespace Cert.RefSum

open Cert.ReferenceIdeal Cert.ReferenceIdeal.Gen Cert.Sums
open Idealize.ShloMosaic
open Idealize.ShloMosaic.ValueIdx

/-! ## The reference's arrays -/

/-- The codes with the halves before the outputs. -/
def codesT (K : IVec S512x4096x2 32) : IVec S512x2x4096 32 := transpose S512x2x4096 [0, 2, 1] K transposes_S512x4096x2_S512x2x4096_0_2_1

/-- The positions to take, a negative code counted from the end. -/
def starts (K : IVec S512x4096x2 32) : IVec S512x2x4096x1 32 :=
  shapeCast S512x2x4096x1
    (select (cmpi .slt (codesT K) (broadcastInDim S512x2x4096 ![] bcast_S_S512x2x4096 (constantI S_ 32 0#32)))
      (addi (codesT K) (broadcastInDim S512x2x4096 ![] bcast_S_S512x2x4096 (constantI S_ 32 256#32))) (codesT K))
    shapeCasts_S512x2x4096_S512x2x4096x1

/-- Which positions are in range. -/
def inRange (K : IVec S512x4096x2 32) : IVec S512x2x4096 1 :=
  Host.reduce IntOp.andi
    (andi (cmpi .sge (starts K) (broadcastInDim S512x2x4096x1 ![] bcast_S_S512x2x4096x1 (constantI S_ 32 0#32)))
      (cmpi .sle (starts K) (broadcastInDim S512x2x4096x1 ![0, 1, 2, 3] bcast_S1x1x1x1_S512x2x4096x1_0_1_2_3
        (broadcastInDim S1x1x1x1 ![3] bcast_S1_S1x1x1x1_3 (constantI S1 32 255#32)))))
    (constantI S_ 1 1#1) reducesTo_S512x2x4096x1_S512x2x4096_d3 h_S_

/-- The product of the activations' groups and the codebooks. -/
def table (x : S1x4096.Idx → EReal) (b : S2x256x1x8.Idx → EReal) : S512x512.Idx → EReal :=
  Host.dotGeneral (F := Ideal) (φ₁ := .f32) (φ₂ := .f32) dot_S512x8_S8x512_S512x512_1_0_0_1_n_n none (shapeCast S512x8 x shapeCasts_S1x4096_S512x8)
    (transpose S8x512 [1, 0] (shapeCast S512x8 b shapeCasts_S2x256x1x8_S512x8) transposes_S512x8_S8x512_1_0)

/-- The entries taken, from a table. -/
def taken (T : S512x512.Idx → EReal) (K : IVec S512x4096x2 32) : S512x2x4096.Idx → EReal :=
  select (inRange K)
    (Host.gather gather_S512x2x256_S512x2x4096x1_S512x2x4096_n_2_01_01_2_3_111 (shapeCast S512x2x256 T shapeCasts_S512x512_S512x2x256) (starts K))
    (broadcastInDim S512x2x4096 ![] bcast_S_S512x2x4096 (constant (F := Ideal) S_ .f32 0x7FC00000#32))

/-- The reference's result from its four arguments. -/
def refOut (x : S1x4096.Idx → EReal) (b : S2x256x1x8.Idx → EReal) (K : IVec S512x4096x2 32) (s : S4096x1x1x1.Idx → EReal) : S1x4096.Idx → EReal :=
  shapeCast S1x4096
    (mulf (F := Ideal) (φ := .f32)
      (Host.reduceAdd (F := Ideal) (φ := .f32) (taken (table x b) K) (constant (F := Ideal) S_ .f32 0x00000000#32) reducesTo_S512x2x4096_S4096_d0_1 h_S_)
      (shapeCast S4096 s shapeCasts_S4096x1x1x1_S4096))
    shapeCasts_S4096_S1x4096

/-! ## The positions -/

/-- A word below 256 is not negative. -/
theorem slt_zero (v : BitVec 32) (h : v.toNat < 256) : IntOp.cmpi .slt v 0#32 = 0#1 := by
  have ofBool_eq_zero (p : Bool) : (BitVec.ofBool p = 0#1) ↔ p = false := by cases p <;> decide
  simp only [IntOp.cmpi, ofBool_eq_zero, BitVec.slt_eq_decide, decide_eq_false_iff_not, BitVec.toInt_eq_toNat_cond, BitVec.toNat_ofNat,
    Nat.reducePow, Nat.reduceMod]
  omega

/-- A word below 256 is at least 0 and at most 255. -/
theorem within (v : BitVec 32) (h : v.toNat < 256) : IntOp.andi (IntOp.cmpi .sge v 0#32) (IntOp.cmpi .sle v 255#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, decide_eq_true_eq, BitVec.toInt_eq_toNat_cond,
    BitVec.toNat_ofNat, Nat.reducePow, Nat.reduceMod]
  omega

/-- The codes' transpose at an index. -/
theorem codesT_apply (K : IVec S512x4096x2 32) (J : Fin 512) (c : Fin 2) (o : Fin 4096) : codesT K (ix3 J c o) = K (ix3 J o c) :=
  transpose_ix3_021_apply K _ J c o

/-- Every position to take is the code. -/
theorem starts_apply {K : IVec S512x4096x2 32} (hK : ∀ x, (K x).toNat < 256) (J : Fin 512) (c : Fin 2) (o : Fin 4096) (u : Fin 1) :
    starts K (ix4 J c o u) = K (ix3 J o c) := by
  unfold starts
  refine (shapeCast_apply _ _ (ix4 J c o u) (ix3 J c o) ?_).trans ?_
  · rw [Shape.rowMajor_val_three, Shape.rowMajor_val_four]
    have hu : u.val = 0 := by omega
    show (J.val * 2 + c.val) * 4096 + o.val = ((J.val * 2 + c.val) * 4096 + o.val) * 1 + u.val
    omega
  · show Scalar.select (IntOp.cmpi .slt (codesT K (ix3 J c o)) 0#32) _ (codesT K (ix3 J c o)) = _
    rw [codesT_apply, slt_zero _ (hK _)]
    exact if_neg (by decide)

/-- Every position is in range. -/
theorem inRange_apply {K : IVec S512x4096x2 32} (hK : ∀ x, (K x).toNat < 256) (j : S512x2x4096.Idx) : inRange K j = 1#1 := by
  refine Host.reduce_andi_one _ _ _ _ j rfl fun i => ?_
  have e : starts K i = K (ix3 (i 0) (i 2) (i 1)) := (congrArg (starts K) (eq_ix4 i)).trans (starts_apply hK (i 0) (i 1) (i 2) (i 3))
  show IntOp.andi (IntOp.cmpi .sge (starts K i) 0#32) (IntOp.cmpi .sle (starts K i) 255#32) = 1#1
  rw [e]
  exact within _ (hK _)

/-! ## The entries -/

/-- The gather at an index: the operand's row and half, at the position read there. -/
theorem gather_apply (X : S512x2x256.Idx → EReal) (st : IVec S512x2x4096x1 32) (J : Fin 512) (c : Fin 2) (o : Fin 4096) :
    Host.gather gather_S512x2x256_S512x2x4096x1_S512x2x4096_n_2_01_01_2_3_111 X st (ix3 J c o)
      = X (ix3 J c (⟨min (st (ix4 J c o 0)).toInt.toNat 255, by omega⟩ : Fin 256)) := by
  unfold Host.gather
  refine congrArg X (funext fun a => Fin.ext ?_)
  show GatherDims.start _ (ix3 J c o) st a + GatherDims.batchCoord _ (ix3 J c o) a + GatherDims.offCoord _ (ix3 J c o) a = _
  have hoff : ∀ a, GatherDims.offCoord gather_S512x2x256_S512x2x4096x1_S512x2x4096_n_2_01_01_2_3_111 (ix3 J c o) a = 0 := fun a =>
    GatherDims.offCoord_eq_zero _ _ _ (by fin_cases a <;> decide)
  rw [hoff]
  fin_cases a
  · rw [GatherDims.start_batching _ _ _ _ (by decide)]
    show 0 + GatherDims.batchCoord _ (ix3 J c o) 0 + 0 = J.val
    unfold GatherDims.batchCoord
    rw [dif_pos (by decide)]
    rw [Nat.zero_add, Nat.add_zero]
    rfl
  · rw [GatherDims.start_batching _ _ _ _ (by decide)]
    show 0 + GatherDims.batchCoord _ (ix3 J c o) 1 + 0 = c.val
    unfold GatherDims.batchCoord
    rw [dif_pos (by decide)]
    rw [Nat.zero_add, Nat.add_zero]
    rfl
  · rw [GatherDims.batchCoord_eq_zero _ _ _ (by decide)]
    show GatherDims.start _ (ix3 J c o) st 2 + 0 + 0 = min (st (ix4 J c o 0)).toInt.toNat 255
    unfold GatherDims.start
    rw [dif_pos (by decide)]
    refine congrArg (fun i => min (st i).toInt.toNat 255) (funext fun b => Fin.ext ?_)
    fin_cases b <;> rfl

/-- An entry taken is the one the code picks. -/
theorem taken_apply (T : S512x512.Idx → EReal) {K : IVec S512x4096x2 32} (hK : ∀ x, (K x).toNat < 256) (J : Fin 512) (c : Fin 2) (o : Fin 4096) :
    taken T K (ix3 J c o) = pick T K J o c := by
  have hk := hK (ix3 J o c)
  have hi : (K (ix3 J o c)).toInt.toNat = (K (ix3 J o c)).toNat := by
    rw [BitVec.toInt_eq_toNat_cond]; split <;> omega
  unfold taken select
  rw [inRange_apply hK, gather_apply]
  refine (if_pos rfl).trans ?_
  unfold pick
  refine shapeCast_apply T _ _ _ ?_
  rw [Shape.rowMajor_val_two, Shape.rowMajor_val_three]
  show J.val * 512 + (256 * c.val + (K (ix3 J o c)).toNat) % 512 = (J.val * 2 + c.val) * 256 + min (starts K (ix4 J c o 0)).toInt.toNat 255
  rw [starts_apply hK, hi]
  have hc := c.isLt
  omega

/-- The reference's table is the product of the groups and the codebooks. -/
theorem table_eq (x : S1x4096.Idx → EReal) (b : S2x256x1x8.Idx → EReal) :
    table x b = prod (shapeCast S512x8 x shapeCasts_S1x4096_S512x8) (shapeCast S512x8 b shapeCasts_S2x256x1x8_S512x8) := by
  funext i
  rw [eq_ix2 i]
  refine (StackMember.dotGeneral_plain_apply (m := 512) (k := 8) (n := 512) (φ₁ := .f32) (φ₂ := .f32) none (shapeCast S512x8 x shapeCasts_S1x4096_S512x8)
    (transpose S8x512 [1, 0] (shapeCast S512x8 b shapeCasts_S2x256x1x8_S512x8) transposes_S512x8_S8x512_1_0) (i 0) (i 1)).trans ?_
  refine Finset.sum_congr rfl fun t _ => ?_
  exact congrArg (shapeCast S512x8 x shapeCasts_S1x4096_S512x8 (ix2 (i 0) t) * ·)
    (transpose_ix2_apply (a := 512) (b := 8) (shapeCast S512x8 b shapeCasts_S2x256x1x8_S512x8) transposes_S512x8_S8x512_1_0 t (i 1))

/-! ## The sum -/

/-- A sum over the indices that reduce to output `o` is the double sum over rows and halves. -/
theorem sum_fiber (v : S512x2x4096.Idx → EReal) (o : Fin 4096) :
    ∑ i ∈ Finset.univ.filter (fun i => (reducesTo_S512x2x4096_S4096_d0_1 : S512x2x4096.ReducesTo [0, 1] S4096).drop i = ix1 o), v i
      = ∑ J : Fin 512, ∑ c : Fin 2, v (ix3 J c o) := by
  rw [← Finset.sum_product']
  symm
  refine Finset.sum_bij (fun p _ => ix3 p.1 p.2 o) ?_ ?_ ?_ ?_
  · intro p _
    refine Finset.mem_filter.mpr ⟨Finset.mem_univ _, funext fun a => ?_⟩
    fin_cases a
    rfl
  · intro p _ q _ h
    exact Prod.ext (congrFun h 0) (congrFun h 1)
  · intro i hi
    have h := congrFun (Finset.mem_filter.mp hi).2 0
    have h2 : i 2 = o := h
    refine ⟨(i 0, i 1), Finset.mem_product.mpr ⟨Finset.mem_univ _, Finset.mem_univ _⟩, ?_⟩
    show ix3 (i 0) (i 1) o = i
    rw [← h2]
    exact (eq_ix3 i).symm
  · intro p _
    rfl

/-- The reference's result, output by output. -/
theorem refOut_eq (x : S1x4096.Idx → EReal) (b : S2x256x1x8.Idx → EReal) {K : IVec S512x4096x2 32} (hK : ∀ x, (K x).toNat < 256)
    (s : S4096x1x1x1.Idx → EReal) (u : Fin 1) (o : Fin 4096) :
    refOut x b K s (ix2 u o)
      = (∑ J : Fin 512, ∑ c : Fin 2, pick (prod (shapeCast S512x8 x shapeCasts_S1x4096_S512x8) (shapeCast S512x8 b shapeCasts_S2x256x1x8_S512x8)) K J o c)
        * shapeCast S4096 s shapeCasts_S4096x1x1x1_S4096 (ix1 o) := by
  unfold refOut
  rw [shapeCast_a_1a_apply, table_eq]
  show (Ideal.hostReduceAdd reducesTo_S512x2x4096_S4096_d0_1 (taken _ K) (Ideal.ofBits .f32 0x00000000#32) (ix1 o) : EReal) * _ = _
  refine congrArg (· * _) ?_
  show Ideal.ofBits .f32 0x00000000#32 + _ = _
  rw [Ideal.ofBits_zero_f32, zero_add, sum_fiber]
  exact Finset.sum_congr rfl fun J _ => Finset.sum_congr rfl fun c _ => taken_apply _ hK J c o

end Cert.RefSum
-- ==== Proof.Equation.lean ====
/-
  The equation: from codes in range the kernel at the ideal values and the reference end at one result.
-/
module

public import proofs.«01_k».proof.Proof.Frames
public import proofs.«01_k».proof.Proof.KernelSum
public import proofs.«01_k».proof.Proof.RefSum

@[expose] public section

noncomputable section

namespace Cert.Equation

open Idealize.ShloMosaic hiding ix1 ix2 ix3 ix4 eq_ix1 eq_ix2
open Idealize.ShloMosaic.ValueIdx Idealize.SL.Sem Cert.Sums

/-- From codes in range the kernel's result is the reference's. -/
theorem values (x : Cert.KernelIdeal.S1x4096.Idx → EReal) (b : Cert.KernelIdeal.S2x256x1x8.Idx → EReal)
    {K : IVec Cert.KernelIdeal.S512x4096x2 32} (hK : ∀ x, (K x).toNat < 256) (s : Cert.KernelIdeal.S4096x1x1x1.Idx → EReal) :
    Cert.KernelIdeal.Hand.kernelOut (F := Ideal) x b K s = Cert.RefSum.refOut x b K s := by
  funext i
  refine (congrArg (Cert.KernelIdeal.Hand.kernelOut (F := Ideal) x b K s) (eq_ix2 (n0 := 1) (n1 := 4096) i)).trans ?_
  refine Eq.trans ?_ (congrArg (Cert.RefSum.refOut x b K s) (eq_ix2 (n0 := 1) (n1 := 4096) i)).symm
  refine (Cert.KernelIdeal.Hand.kernelOut_eq x b hK s (i 0) (i 1)).trans (Eq.trans ?_ (Cert.RefSum.refOut_eq x b hK s (i 0) (i 1)).symm)
  refine congrArg (· * _) ?_
  refine Finset.sum_add_distrib.symm.trans ?_
  exact Finset.sum_congr rfl fun J _ => (Fin.sum_univ_two _).symm

/-- The reference runs to its end at its value. -/
theorem reference_value (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v10)
          = Cert.RefSum.refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun _ h c => ⟨(h c).1.trans rfl, (h c).2⟩)
    (Cert.ReferenceIdeal.Value.run (F := Ideal) m g)

/-- The kernel at the ideal values and the reference end at one result, from codes in range. -/
theorem algebraic : algebraic_KernelIdeal_ReferenceIdeal := fun m g m' g' hpre hargs =>
  have hC := fun (d : Dev Cert.KernelIdeal.nD) x => Cert.Codes.codes_lt _ _ _ _ (hpre d) x
  ⟨fun c => Cert.KernelIdeal.Hand.kernelOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run (Cert.KernelIdeal.defs (F := Ideal)) _ _).mono
      (fun _ h c => ⟨(h.1 c).2.2.2.2, (h.1 c).1, (h.1 c).2.1, (h.1 c).2.2.1, (h.1 c).2.2.2.1⟩)
      (Cert.KernelIdeal.Hand.run_main (F := Ideal) m g hC),
    (θ_run (Cert.ReferenceIdeal.defs (F := Ideal)) _ _).mono
      (fun _ h c => ⟨(h c).1.trans (by
        obtain ⟨h0, h1, h2, h3⟩ := hargs c
        rw [h0, h1, h2, h3]
        exact (values _ _ (hC c) _).symm), (h c).2⟩)
      (reference_value m' g')⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_codes_in_range
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frames of the kernel, of the kernel at the ideal values and of the reference, the transform's meaning kept, and
    the equation of the kernel's value with the reference's. -/
theorem claim : Cert.Claim :=
  ⟨Cert.Kernel.Gen.facts, Cert.KernelIdeal.Gen.facts, Cert.ReferenceIdeal.Gen.facts, Cert.Pre_codes_in_range.Gen.facts,
    Cert.Frames.kernel, Cert.Frames.kernelIdeal, Cert.Frames.reference, Cert.Frames.reference_pre, trivial, Cert.Equation.algebraic⟩

end Cert.Proof

end
